-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S4x8192x1024 : Shape := ⟨3, ![4, 8192, 1024]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S4x8192x1024 .f32) (main_arg1 : IVec S4 32) (main_arg2 : IVec S4 32) : IVec S_ 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 8192#32
  let main_v2 : IVec S4 32 := broadcastInDim S4 ![] bcast_S_S4 main_c_0
  let main_v3 : IVec S4 1 := cmpi .slt main_arg1 main_v2
  let main_v4 : IVec S4 1 := andi main_v1 main_v3
  let main_c_1 : IVec S_ 32 := constantI S_ 32 0#32
  let main_v5 : IVec S4 32 := broadcastInDim S4 ![] bcast_S_S4 main_c_1
  let main_v6 : IVec S4 1 := cmpi .sge main_arg2 main_v5
  let main_v7 : IVec S4 1 := andi main_v4 main_v6
  let main_c_2 : IVec S_ 32 := constantI S_ 32 8192#32
  let main_v8 : IVec S4 32 := broadcastInDim S4 ![] bcast_S_S4 main_c_2
  let main_v9 : IVec S4 1 := cmpi .slt main_arg2 main_v8
  let main_v10 : IVec S4 1 := andi main_v7 main_v9
  let main_c_3 : IVec S_ 1 := constantI S_ 1 1#1
  let main_v11 : IVec S_ 1 := (fun x v => Host.reduce IntOp.andi x v reducesTo_S4_S_d0 h_S_) main_v10 main_c_3
  main_v11
-- ==== Kernel.lean ====
abbrev S4x8192x1024 : Shape := ⟨3, ![4, 8192, 1024]⟩
abbrev S4 : Shape := ⟨1, ![4]⟩
abbrev S262144x128 : Shape := ⟨2, ![262144, 128]⟩
abbrev S_ : Shape := ⟨0, ![]⟩
abbrev S4x1 : Shape := ⟨2, ![4, 1]⟩
abbrev S4x2 : Shape := ⟨2, ![4, 2]⟩
abbrev S4x2x1 : Shape := ⟨3, ![4, 2, 1]⟩
abbrev S8 : Shape := ⟨1, ![8]⟩
abbrev S1x1x8 : Shape := ⟨3, ![1, 1, 8]⟩
abbrev S4x2x8 : Shape := ⟨3, ![4, 2, 8]⟩
abbrev S4x16 : Shape := ⟨2, ![4, 16]⟩
abbrev S4x976 : Shape := ⟨2, ![4, 976]⟩
abbrev S16 : Shape := ⟨1, ![16]⟩
abbrev S16x128 : Shape := ⟨2, ![16, 128]⟩
abbrev S976 : Shape := ⟨1, ![976]⟩
abbrev S1x16 : Shape := ⟨2, ![1, 16]⟩
abbrev S1 : Shape := ⟨1, ![1]⟩
abbrev S1x976 : Shape := ⟨2, ![1, 976]⟩
abbrev S4x961 : Shape := ⟨2, ![4, 961]⟩

abbrev nBuf : Table → Nat
  | .hbm => 25
  | .local .scVector .vmem => 3
  | _ => 0

abbrev bufTy : (tb : Table) → Fin (nBuf tb) → BufTy
  | .hbm, ⟨0, _⟩ => ⟨S4x8192x1024, .f32⟩
  | .hbm, ⟨1, _⟩ => ⟨S4, .i32⟩
  | .hbm, ⟨2, _⟩ => ⟨S4, .i32⟩
  | .hbm, ⟨3, _⟩ => ⟨S262144x128, .f32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S4, .i32⟩
  | .hbm, ⟨9, _⟩ => ⟨S4, .i32⟩
  | .hbm, ⟨10, _⟩ => ⟨S4x1, .i32⟩
  | .hbm, ⟨11, _⟩ => ⟨S4x1, .i32⟩
  | .hbm, ⟨12, _⟩ => ⟨S4x2, .i32⟩
  | .hbm, ⟨13, _⟩ => ⟨S4x2x1, .i32⟩
  | .hbm, ⟨14, _⟩ => ⟨S_, .i32⟩
  | .hbm, ⟨15, _⟩ => ⟨S4x2x1, .i32⟩
  | .hbm, ⟨16, _⟩ => ⟨S4x2x1, .i32⟩
  | .hbm, ⟨17, _⟩ => ⟨S8, .i32⟩
  | .hbm, ⟨18, _⟩ => ⟨S1x1x8, .i32⟩
  | .hbm, ⟨19, _⟩ => ⟨S4x2x8, .i32⟩
  | .hbm, ⟨20, _⟩ => ⟨S4x2x8, .i32⟩
  | .hbm, ⟨21, _⟩ => ⟨S4x2x8, .i32⟩
  | .hbm, ⟨22, _⟩ => ⟨S4x16, .i32⟩
  | .hbm, ⟨23, _⟩ => ⟨S4x976, .f32⟩
  | .hbm, ⟨24, _⟩ => ⟨S4x961, .f32⟩
  | .local .scVector .vmem, ⟨0, _⟩ => ⟨S16, .i32⟩
  | .local .scVector .vmem, ⟨1, _⟩ => ⟨S16x128, .f32⟩
  | .local .scVector .vmem, ⟨2, _⟩ => ⟨S976, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v0_scv : Ref sig .scVector := ⟨.hbm, 3, rfl⟩
abbrev main_v17_scv : Ref sig .scVector := ⟨.hbm, 22, rfl⟩
abbrev main_v18_scv : Ref sig .scVector := ⟨.hbm, 23, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c4_i32 : BitVec 32 := 4#32
  let v2 : BitVec 1 := Scalar.cmpi .slt v1 c4_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c0_i32_128_r0 : BitVec 32 := 0#32
  ![v1.toNat, 0]
def k0_off2 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c0_i32_124 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x1024 : Shape := ⟨3, ![4, 8192, 1024]⟩
abbrev S4 : Shape := ⟨1, ![4]⟩
abbrev S_ : Shape := ⟨0, ![]⟩
abbrev S4x1 : Shape := ⟨2, ![4, 1]⟩
abbrev S4x2 : Shape := ⟨2, ![4, 2]⟩
abbrev S4x1024 : Shape := ⟨2, ![4, 1024]⟩
abbrev S4x32 : Shape := ⟨2, ![4, 32]⟩
abbrev S4x480 : Shape := ⟨2, ![4, 480]⟩
abbrev S4x961 : Shape := ⟨2, ![4, 961]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i1⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i1⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S4, .i32⟩
  | .hbm, ⟨18, _⟩ => ⟨S4x1, .i32⟩
  | .hbm, ⟨19, _⟩ => ⟨S4x1, .i32⟩
  | .hbm, ⟨20, _⟩ => ⟨S4x2, .i32⟩
  | .hbm, ⟨21, _⟩ => ⟨S4x1024, .f32⟩
  | .hbm, ⟨22, _⟩ => ⟨S_, .i32⟩
  | .hbm, ⟨23, _⟩ => ⟨S4, .i32⟩
  | .hbm, ⟨24, _⟩ => ⟨S4, .i1⟩
  | .hbm, ⟨25, _⟩ => ⟨S_, .i32⟩
  | .hbm, ⟨26, _⟩ => ⟨S4, .i32⟩
  | .hbm, ⟨27, _⟩ => ⟨S4, .i32⟩
  | .hbm, ⟨28, _⟩ => ⟨S4, .i32⟩
  | .hbm, ⟨29, _⟩ => ⟨S_, .i32⟩
  | .hbm, ⟨30, _⟩ => ⟨S4, .i32⟩
  | .hbm, ⟨31, _⟩ => ⟨S4, .i1⟩
  | .hbm, ⟨32, _⟩ => ⟨S_, .i32⟩
  | .hbm, ⟨33, _⟩ => ⟨S4, .i32⟩
  | .hbm, ⟨34, _⟩ => ⟨S4, .i32⟩
  | .hbm, ⟨35, _⟩ => ⟨S4, .i32⟩
  | .hbm, ⟨36, _⟩ => ⟨S4x1, .i32⟩
  | .hbm, ⟨37, _⟩ => ⟨S4x1, .i32⟩
  | .hbm, ⟨38, _⟩ => ⟨S4x2, .i32⟩
  | .hbm, ⟨39, _⟩ => ⟨S4x1024, .f32⟩
  | .hbm, ⟨40, _⟩ => ⟨S4x32, .f32⟩
  | .hbm, ⟨41, _⟩ => ⟨S4x32, .f32⟩
  | .hbm, ⟨42, _⟩ => ⟨S4x32, .f32⟩
  | .hbm, ⟨43, _⟩ => ⟨S_, .f32⟩
  | .hbm, ⟨44, _⟩ => ⟨S4, .f32⟩
  | .hbm, ⟨45, _⟩ => ⟨S4x1, .f32⟩
  | .hbm, ⟨46, _⟩ => ⟨S4x480, .f32⟩
  | .hbm, ⟨47, _⟩ => ⟨S4x480, .f32⟩
  | .hbm, ⟨48, _⟩ => ⟨S4x961, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Setup.lean ====
/-
  What the run of the kernel is told before it starts: the program as the SparseCore launch theorem sees it, the buffers
  and their rows, the contents the host operations leave in the table and in the index rows, the row each tile has to
  write, and what the launch handshakes carry.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.ShareLeaves
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The one call runs on sixteen tiles. -/
theorem tiles_sixteen : (K (F := F)).nSub 0 = 16 := rfl

theorem launchFacts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-! ## Ghost state: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The table of 128-word pieces, the index rows and the padded output rows, in device memory. -/
abbrev tLoc (d : Dev nD) : Loc nD τ sig := (SparseCore.T d).loc main_v0
abbrev iLoc (d : Dev nD) : Loc nD τ sig := (SparseCore.T d).loc main_v17
abbrev oLoc (d : Dev nD) : Loc nD τ sig := (SparseCore.T d).loc main_v18

/-- The same three as a tile names them, and its own index list, gathered rows and row to write. -/
abbrev tV : Memref sig Kind.scVector Space.hbm S262144x128 EltTy.f32 := Memref.whole main_v0_scv
abbrev iV : Memref sig Kind.scVector Space.hbm S4x16 EltTy.i32 := Memref.whole main_v17_scv
abbrev oV : Memref sig Kind.scVector Space.hbm S4x976 EltTy.f32 := Memref.whole main_v18_scv
abbrev sV : Memref sig Kind.scVector Space.vmem S16 EltTy.i32 := Memref.whole cc0_scratch0
abbrev rV : Memref sig Kind.scVector Space.vmem S16x128 EltTy.f32 := Memref.whole cc0_scratch1
abbrev wV : Memref sig Kind.scVector Space.vmem S976 EltTy.f32 := Memref.whole cc0_scratch2

/-- The elements of row `i` of the index rows, and of the output rows: none where there is no row `i`, so that the
    sixteen tiles share the four rows in one way. -/
def iRowSet (i : Fin 16) : Finset S4x16.Idx := Finset.univ.filter fun x => (x 0).val = i.val
def oRowSet (i : Fin 16) : Finset S4x976.Idx := Finset.univ.filter fun x => (x 0).val = i.val

theorem iRows_disjoint : ∀ i ∈ (Finset.univ : Finset (Fin 16)), ∀ j ∈ (Finset.univ : Finset (Fin 16)), i ≠ j → Disjoint (iRowSet i) (iRowSet j) := by
  intro i _ j _ h
  refine Finset.disjoint_left.mpr fun x hi hj => h (Fin.ext ?_)
  exact (Finset.mem_filter.mp hi).2.symm.trans (Finset.mem_filter.mp hj).2

theorem oRows_disjoint : ∀ i ∈ (Finset.univ : Finset (Fin 16)), ∀ j ∈ (Finset.univ : Finset (Fin 16)), i ≠ j → Disjoint (oRowSet i) (oRowSet j) := by
  intro i _ j _ h
  refine Finset.disjoint_left.mpr fun x hi hj => h (Fin.ext ?_)
  exact (Finset.mem_filter.mp hi).2.symm.trans (Finset.mem_filter.mp hj).2

theorem iRows_cover : (Finset.univ : Finset (Fin 16)).biUnion iRowSet = Finset.univ := by
  refine Finset.eq_univ_of_forall fun x => Finset.mem_biUnion.mpr ?_
  have h : (x 0).val < 4 := (x 0).isLt
  exact ⟨⟨(x 0).val, by omega⟩, Finset.mem_univ _, Finset.mem_filter.mpr ⟨Finset.mem_univ _, rfl⟩⟩

theorem oRows_cover : (Finset.univ : Finset (Fin 16)).biUnion oRowSet = Finset.univ := by
  refine Finset.eq_univ_of_forall fun x => Finset.mem_biUnion.mpr ?_
  have h : (x 0).val < 4 := (x 0).isLt
  exact ⟨⟨(x 0).val, by omega⟩, Finset.mem_univ _, Finset.mem_filter.mpr ⟨Finset.mem_univ _, rfl⟩⟩

/-- Tile `i`'s share of the table: one of the sixteen that four halvings make. -/
abbrev tq (i : Fin 16) : PosShare TreeShare := ShareLeaves.leaf 4 fullShare i

/-! ## The row a tile writes, from the table and the index rows -/

section Value

variable [FloatOps F]

/-- A place in an array of two axes, by its row and its column (each taken modulo the axis). -/
def place (n k : ℕ) [NeZero n] [NeZero k] (r c : ℕ) : (⟨2, ![n, k]⟩ : Shape).Idx :=
  Shape.pair (d := ![n, k]) (Fin.ofNat n r) (Fin.ofNat k c)

variable (Tb : S262144x128.Idx → F .f32) (Ix : S4x16.Idx → BitVec 32) (b : ℕ)

/-- Word `l` of the table's row that entry `r` of index row `b` names. -/
def piece (r l : ℕ) : F .f32 := Tb (place 262144 128 (Ix (place 4 16 b r)).toNat l)

/-- Lane `l` of the two products of the coherence columns, added. -/
def lane (l : ℕ) : F .f32 :=
  FloatOps.addf (FloatOps.mulf (piece Tb Ix b 7 (64 + l)) (piece Tb Ix b 15 (96 + l)))
    (FloatOps.mulf (piece Tb Ix b 7 (80 + l)) (piece Tb Ix b 15 (112 + l)))

/-- Lanes `0` to `n` added from the left on the scalar unit. -/
def laneSum : ℕ → F .f32
  | 0 => lane Tb Ix b 0
  | n + 1 => Scalar.addf (laneSum n) (lane Tb Ix b (n + 1))

/-- Column `c` of output row `b`: 480 words of the start row, 480 of the end row, the coherence sum. -/
def outRow (c : ℕ) : F .f32 :=
  if c < 480 then piece Tb Ix b (c / 128) (c % 128)
  else if c < 960 then piece Tb Ix b (8 + c / 128) (c % 128)
  else laneSum Tb Ix b 15

end Value

/-! ## The host operations before the call -/

variable (m : (ℓ : Loc nD τ sig) → Buf (Elt F) ℓ) (ρ : Dev nD → PrngReg)

section Host

/-- The twenty operations that reshape the table and compute the index rows. -/
def hostOps : List (HloOp τ sig (Elt F)) := [
  StableHlo.reshape main_arg0 main_v0 (rfl : (.f32 : EltTy) = .f32) shapeCasts_S4x8192x1024_S262144x128,
  StableHlo.nullary main_v1 (iotaInDim S4 32 0),
  StableHlo.nullary main_c (constantI S_ 32 8192#32),
  StableHlo.unary main_c main_v2 (broadcastInDim S4 ![] bcast_S_S4 : (⟨S_, .i32⟩ : BufTy).Contents (Elt F) → (⟨S4, .i32⟩ : BufTy).Contents (Elt F)),
  StableHlo.binary main_v1 main_v2 main_v3 (muli : (⟨S4, .i32⟩ : BufTy).Contents (Elt F) → (⟨S4, .i32⟩ : BufTy).Contents (Elt F) → (⟨S4, .i32⟩ : BufTy).Contents (Elt F)),
  StableHlo.binary main_arg1 main_v3 main_v4 (addi : (⟨S4, .i32⟩ : BufTy).Contents (Elt F) → (⟨S4, .i32⟩ : BufTy).Contents (Elt F) → (⟨S4, .i32⟩ : BufTy).Contents (Elt F)),
  StableHlo.binary main_arg2 main_v3 main_v5 (addi : (⟨S4, .i32⟩ : BufTy).Contents (Elt F) → (⟨S4, .i32⟩ : BufTy).Contents (Elt F) → (⟨S4, .i32⟩ : BufTy).Contents (Elt F)),
  StableHlo.unary main_v4 main_v6 (broadcastInDim S4x1 ![0] bcast_S4_S4x1_0 : (⟨S4, .i32⟩ : BufTy).Contents (Elt F) → (⟨S4x1, .i32⟩ : BufTy).Contents (Elt F)),
  StableHlo.unary main_v5 main_v7 (broadcastInDim S4x1 ![0] bcast_S4_S4x1_0 : (⟨S4, .i32⟩ : BufTy).Contents (Elt F) → (⟨S4x1, .i32⟩ : BufTy).Contents (Elt F)),
  StableHlo.binary main_v6 main_v7 main_v8 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
  StableHlo.unary main_v8 main_v9 (broadcastInDim S4x2x1 ![0, 1] bcast_S4x2_S4x2x1_0_1 : (⟨S4x2, .i32⟩ : BufTy).Contents (Elt F) → (⟨S4x2x1, .i32⟩ : BufTy).Contents (Elt F)),
  StableHlo.nullary main_c_0 (constantI S_ 32 8#32),
  StableHlo.unary main_c_0 main_v10 (broadcastInDim S4x2x1 ![] bcast_S_S4x2x1 : (⟨S_, .i32⟩ : BufTy).Contents (Elt F) → (⟨S4x2x1, .i32⟩ : BufTy).Contents (Elt F)),
  StableHlo.binary main_v9 main_v10 main_v11 (muli : (⟨S4x2x1, .i32⟩ : BufTy).Contents (Elt F) → (⟨S4x2x1, .i32⟩ : BufTy).Contents (Elt F) → (⟨S4x2x1, .i32⟩ : BufTy).Contents (Elt F)),
  StableHlo.nullary main_v12 (iotaInDim S8 32 0),
  StableHlo.unary main_v12 main_v13 (broadcastInDim S1x1x8 ![2] bcast_S8_S1x1x8_2 : (⟨S8, .i32⟩ : BufTy).Contents (Elt F) → (⟨S1x1x8, .i32⟩ : BufTy).Contents (Elt F)),
  StableHlo.unary main_v11 main_v14 (broadcastInDim S4x2x8 ![0, 1, 2] bcast_S4x2x1_S4x2x8_0_1_2 : (⟨S4x2x1, .i32⟩ : BufTy).Contents (Elt F) → (⟨S4x2x8, .i32⟩ : BufTy).Contents (Elt F)),
  StableHlo.unary main_v13 main_v15 (broadcastInDim S4x2x8 ![0, 1, 2] bcast_S1x1x8_S4x2x8_0_1_2 : (⟨S1x1x8, .i32⟩ : BufTy).Contents (Elt F) → (⟨S4x2x8, .i32⟩ : BufTy).Contents (Elt F)),
  StableHlo.binary main_v14 main_v15 main_v16 (addi : (⟨S4x2x8, .i32⟩ : BufTy).Contents (Elt F) → (⟨S4x2x8, .i32⟩ : BufTy).Contents (Elt F) → (⟨S4x2x8, .i32⟩ : BufTy).Contents (Elt F)),
  StableHlo.reshape main_v16 main_v17 (rfl : (.i32 : EltTy) = .i32) shapeCasts_S4x2x8_S4x16]

/-- The operation after the call: the 961 columns of the output. -/
abbrev sliceOp : HloOp τ sig (Elt F) :=
  StableHlo.unary main_v18 main_v19 ((extractStridedSlice S4x961 ![0, 0] · slices_S4x976_S4x961_0_0) : (⟨S4x976, .f32⟩ : BufTy).Contents (Elt F) → (⟨S4x961, .f32⟩ : BufTy).Contents (Elt F))

/-- The contents of device `d`'s buffers at launch, and after the operations before the call. -/
def V0 (d : Dev nD) : Valuation τ sig (Elt F) := fun b => m (d, b)
def V1 (d : Dev nD) : Valuation τ sig (Elt F) := StableHlo.after hostOps (V0 m d)

/-- The table and the index rows as the call finds them. -/
abbrev Tb (d : Dev nD) : Buf (Elt F) (tLoc d) := V1 m d (Proc.devRef .tc main_v0)
abbrev Ix (d : Dev nD) : Buf (Elt F) (iLoc d) := V1 m d (Proc.devRef .tc main_v17)
abbrev Ov (d : Dev nD) : Buf (Elt F) (oLoc d) := V1 m d (Proc.devRef .tc main_v18)

end Host

variable [FloatOps F]

/-- The written columns of row `i` of `f` are the row's value. -/
def RowOK (d : Dev nD) (i : Fin 16) (f : Buf (Elt F) (oLoc d)) : Prop :=
  ∀ x ∈ oRowSet i, (x 1).val < 961 → f x = outRow (Tb m d) (Ix m d) i.val (x 1).val

/-- The written columns of every row of `f` are the rows' values. -/
def AllOK (d : Dev nD) (f : Buf (Elt F) (oLoc d)) : Prop :=
  ∀ x : S4x976.Idx, (x 1).val < 961 → f x = outRow (Tb m d) (Ix m d) (x 0).val (x 1).val

/-! ## What the handshakes carry -/

abbrev tPts (d : Dev nD) : sProp 𝕄 := tLoc d ↦{fullShare} Tb m d
abbrev iPts (d : Dev nD) : sProp 𝕄 := iLoc d ↦{fullShare} Ix m d
abbrev oPts (d : Dev nD) (f : Buf (Elt F) (oLoc d)) : sProp 𝕄 := oLoc d ↦{fullShare} f
abbrev tShare (d : Dev nD) (i : Fin 16) : sProp 𝕄 := tLoc d ↦{tq i} Tb m d
abbrev iRow (d : Dev nD) (i : Fin 16) : sProp 𝕄 := iLoc d ↦[iRowSet i]{fullShare} Ix m d
abbrev oRow (d : Dev nD) (i : Fin 16) (f : Buf (Elt F) (oLoc d)) : sProp 𝕄 := oLoc d ↦[oRowSet i]{fullShare} f

abbrev taskIn (d : Dev nD) (i : Fin 16) : sProp 𝕄 := iprop(tShare m d i ∗ iRow m d i ∗ oRow d i (Ov m d))
abbrev taskOut (d : Dev nD) (i : Fin 16) : sProp 𝕄 := iprop(tShare m d i ∗ iRow m d i ∗ ∃ f, ⌜RowOK m d i f⌝ ∗ oRow d i f)
abbrev callIn (d : Dev nD) : sProp 𝕄 := iprop(tPts m d ∗ iPts m d ∗ oPts d (Ov m d))
abbrev callOut (d : Dev nD) : sProp 𝕄 := iprop(tPts m d ∗ iPts m d ∗ ∃ f, ⌜AllOK m d f⌝ ∗ oPts d f)

/-- The one call takes the table, the index rows and the output whole; each tile takes a share of the table, its row of
    the indices and its row of the output, and brings them back, the output row at the value it has to hold. -/
def P : (K (F := F)).Pay (nD := nD) (Val := Elt F) (Name := ℕ) (U := UU) where
  st := fun q d _ => match q with | 0 => callIn m d
  dn := fun q d _ => match q with | 0 => callOut m d
  go := fun q d _ i => match q with | 0 => taskIn m d (Fin.cast tiles_sixteen i)
  td := fun q d _ i => match q with | 0 => taskOut m d (Fin.cast tiles_sixteen i)
  x := fun _ _ => iprop(emp)

instance P_storable : (P (F := F) m).IsStorable where
  st q d _ := match q with | 0 => (inferInstance : BI.Storable (upEmb : UEmb _ 𝕄) (callIn m d))
  dn q d _ := match q with | 0 => (inferInstance : BI.Storable (upEmb : UEmb _ 𝕄) (callOut m d))
  go q d _ i := match q with | 0 => (inferInstance : BI.Storable (upEmb : UEmb _ 𝕄) (taskIn m d (Fin.cast tiles_sixteen i)))
  td q d _ i := match q with | 0 => (inferInstance : BI.Storable (upEmb : UEmb _ 𝕄) (taskOut m d (Fin.cast tiles_sixteen i)))

/-- What the run asks of the launch memory: every entry of the index rows names a row of the table. -/
def InRange : Prop := ∀ (d : Dev nD) (x : S4x16.Idx), (Ix m d x).toNat < 262144

end Cert.Proof

end
-- ==== Proof.Value.lean ====
/-
  The value of one output row, apart from any run: what a read of the gathered pieces gives, what the sum of the lanes
  is, and what the row's memory holds after the 61 stores.
-/
module

public import proofs.«01_k».proof.Proof.Setup
public import Idealize.ShloMosaic.Lib.Pipeline.Value

@[expose] public section

noncomputable section

namespace Cert.Proof

open Cert.KernelIdeal Cert.KernelIdeal.Gen

open Idealize.ShloMosaic

variable {F : FTy → Type} [FloatOps F]

/-- A place of rank two is the place of its two coordinates. -/
theorem eq_place {n k : ℕ} [NeZero n] [NeZero k] (y : (⟨2, ![n, k]⟩ : Shape).Idx) {r c : ℕ} (hr : (y 0).val = r) (hc : (y 1).val = c) :
    y = place n k r c := by
  have h0 : (y 0).val < n := (y 0).isLt
  have h1 : (y 1).val < k := (y 1).isLt
  funext a
  refine Fin.ext ?_
  match a with
  | 0 => show (y 0).val = r % n; rw [← hr, Nat.mod_eq_of_lt h0]
  | 1 => show (y 1).val = c % k; rw [← hc, Nat.mod_eq_of_lt h1]

theorem place_zero {n k : ℕ} [NeZero n] [NeZero k] {r c : ℕ} (hr : r < n) : (place n k r c 0).val = r := Nat.mod_eq_of_lt hr
theorem place_one {n k : ℕ} [NeZero n] [NeZero k] {r c : ℕ} (hc : c < k) : (place n k r c 1).val = c := Nat.mod_eq_of_lt hc

/-- Sixteen words loaded from one gathered row, as a vector of sixteen lanes. -/
theorem chunk_apply (q : S16x128.Idx → Elt F .f32) {r l : ℕ} (inb : ∀ a, (![r, l] : Fin 2 → ℕ) a + S1x16.size a ≤ S16x128.size a)
    (h : S1x16.ShapeCasts S16) (x : S16.Idx) :
    shapeCast S16 (rV.view.readCov (Val := Elt F) [⟨Rect.whole S16x128, q⟩] (Rect.unit (s := S16x128) ![r, l] S1x16.size inb).toLoadRect) h x
      = q (place 16 128 r (l + (x 0).val)) := by
  have hw : ∀ y, rV.view.read (Elt F) (rV.view.writes (Elt F) rV.view.junk [⟨Rect.whole S16x128, q⟩]) y = q y := fun y => by
    refine View.read_writes_apply_of_pieces rV.view _ q _ ?_ y ⟨_, List.mem_singleton_self _, ?_⟩
    · intro p hp x
      rw [List.mem_singleton] at hp; subst hp
      exact congrArg q (funext fun a => Fin.ext (by simp [Rect.whole, Rect.emb]))
    · rw [Rect.set_whole]; exact Finset.mem_univ y
  refine (shapeCast_apply (s := S1x16) (t := S16) _ h x (Shape.pair (d := ![1, 16]) ⟨0, Nat.one_pos⟩ (x 0)) ?_).trans ?_
  · simp [Shape.rowMajor_val_two, Shape.rowMajor_val_one, Shape.pair]
  · refine (hw _).trans (congrArg q (eq_place _ ?_ ?_))
    · show r + 1 * 0 = r; omega
    · show l + 1 * (x 0).val = l + (x 0).val; omega

variable (Tb : S262144x128.Idx → F .f32) (Ix : S4x16.Idx → BitVec 32) (b : ℕ)

/-- The gathered pieces of index row `b`. -/
def Gathered (q : S16x128.Idx → Elt F .f32) : Prop := ∀ r < 16, ∀ l < 128, q (place 16 128 r l) = piece Tb Ix b r l

variable {Tb Ix b}

/-- One store of sixteen loaded words puts sixteen columns of the row's value. -/
theorem store_apply {q : S16x128.Idx → Elt F .f32} (hq : Gathered Tb Ix b q) {o r l : ℕ}
    (inb : ∀ a, (![r, l] : Fin 2 → ℕ) a + S1x16.size a ≤ S16x128.size a) (inb' : ∀ a, (![o] : Fin 1 → ℕ) a + S16.size a ≤ S976.size a)
    (h : S1x16.ShapeCasts S16) (h' : S16.ShapeCasts S16)
    (ho : o % 16 = 0 ∧ o < 960 ∧ l = o % 128 ∧ r = if o < 480 then o / 128 else 8 + o / 128) (x : S16.Idx) :
    shapeCast S16 (shapeCast S16 (rV.view.readCov (Val := Elt F) [⟨Rect.whole S16x128, q⟩] (Rect.unit (s := S16x128) ![r, l] S1x16.size inb).toLoadRect) h) h' x
      = outRow Tb Ix b ((Rect.unit (s := S976) ![o] S16.size inb').emb x 0).val := by
  have hx : (x 0).val < 16 := (x 0).isLt
  obtain ⟨h1, h2, h3, h4⟩ := ho
  have hr : r < 16 := by have := inb 0; simp at this; omega
  rw [shapeCast_self, chunk_apply q inb h x, hq r hr _ (by omega)]
  have he : ((Rect.unit (s := S976) ![o] S16.size inb').emb x 0).val = o + (x 0).val := by
    show o + 1 * (x 0).val = _; omega
  rw [he]
  unfold outRow
  have hm : (o + (x 0).val) % 128 = l + (x 0).val := by omega
  have hd : (o + (x 0).val) / 128 = o / 128 := by omega
  rw [hm, hd]
  by_cases hc : o < 480
  · rw [if_pos (by omega), h4, if_pos hc]
  · rw [if_neg (by omega), if_pos (by omega), h4, if_neg hc]

/-- The sixteen lanes of the two products, added. -/
theorem lanes_apply {q : S16x128.Idx → Elt F .f32} (hq : Gathered Tb Ix b q) (v8 v11 v14 v17 : Vec F S1x16 .f32)
    (h8 : v8 = rV.view.readCov (Val := Elt F) [⟨Rect.whole S16x128, q⟩] (Rect.unit (s := S16x128) ![7, 64] S1x16.size inb_S16x128_S1x16_7_64).toLoadRect)
    (h11 : v11 = rV.view.readCov (Val := Elt F) [⟨Rect.whole S16x128, q⟩] (Rect.unit (s := S16x128) ![7, 80] S1x16.size inb_S16x128_S1x16_7_80).toLoadRect)
    (h14 : v14 = rV.view.readCov (Val := Elt F) [⟨Rect.whole S16x128, q⟩] (Rect.unit (s := S16x128) ![15, 96] S1x16.size inb_S16x128_S1x16_15_96).toLoadRect)
    (h17 : v17 = rV.view.readCov (Val := Elt F) [⟨Rect.whole S16x128, q⟩] (Rect.unit (s := S16x128) ![15, 112] S1x16.size inb_S16x128_S1x16_15_112).toLoadRect)
    (x : S16.Idx) : k0_pay1 v8 v11 v14 v17 x = lane Tb Ix b (x 0).val := by
  have hx : (x 0).val < 16 := (x 0).isLt
  subst h8 h11 h14 h17
  show FloatOps.addf (FloatOps.mulf (shapeCast S16 _ shapeCasts_S1x16_S16 x) (shapeCast S16 _ shapeCasts_S1x16_S16 x))
    (FloatOps.mulf (shapeCast S16 _ shapeCasts_S1x16_S16 x) (shapeCast S16 _ shapeCasts_S1x16_S16 x)) = _
  rw [chunk_apply, chunk_apply, chunk_apply, chunk_apply, hq 7 (by omega) _ (by omega), hq 15 (by omega) _ (by omega),
    hq 7 (by omega) _ (by omega), hq 15 (by omega) _ (by omega)]
  rfl

/-- The stored sum is the lanes added from the left. -/
theorem sum_apply (v8 v11 v14 v17 : Vec F S1x16 .f32) (hl : ∀ x, k0_pay1 v8 v11 v14 v17 x = lane Tb Ix b (x 0).val) (x : S16.Idx) :
    k0_pay4 (k0_pay1 v8 v11 v14 v17) (k0_pay2 v8 v11 v14 v17) (k0_pay3 v8 v11 v14 v17) x = laneSum Tb Ix b 15 := by
  unfold k0_pay4 k0_pay2 k0_pay3
  simp only [shapeCast_self, extractAt, extractStridedSlice, hl]
  rfl

/-- The same as a fact about a stored piece: the sixteen loaded words `w` put at `o`. -/
theorem store_ok {q : S16x128.Idx → Elt F .f32} (hq : Gathered Tb Ix b q) {o r l : ℕ}
    {inb : ∀ a, (![r, l] : Fin 2 → ℕ) a + S1x16.size a ≤ S16x128.size a} {inb' : ∀ a, (![o] : Fin 1 → ℕ) a + S16.size a ≤ S976.size a}
    {w : S16.Idx → Elt F .f32}
    (hw : w = shapeCast S16 (shapeCast S16 (rV.view.readCov (Val := Elt F) [⟨Rect.whole S16x128, q⟩]
      (Rect.unit (s := S16x128) ![r, l] S1x16.size inb).toLoadRect) shapeCasts_S1x16_S16) shapeCasts_S16_S16)
    (ho : o % 16 = 0 ∧ o < 960 ∧ l = o % 128 ∧ r = if o < 480 then o / 128 else 8 + o / 128) :
    ∀ x : (⟨Rect.unit (s := S976) ![o] S16.size inb', w⟩ : View.Piece (Elt F) S976 .f32).1.shape.Idx,
      (⟨Rect.unit (s := S976) ![o] S16.size inb', w⟩ : View.Piece (Elt F) S976 .f32).2 x
        = outRow Tb Ix b ((⟨Rect.unit (s := S976) ![o] S16.size inb', w⟩ : View.Piece (Elt F) S976 .f32).1.emb x 0).val := by
  intro x
  show w x = outRow Tb Ix b ((Rect.unit (s := S976) ![o] S16.size inb').emb x 0).val
  rw [hw]
  exact store_apply hq inb inb' shapeCasts_S1x16_S16 shapeCasts_S16_S16 ho x

/-- What the row's memory holds after the stores: the first one puts the sum at column 960 and is overwritten below it
    by the sixty others, which put sixteen columns each. -/
theorem row_value (fw : wV.view.ty.Contents (Elt F)) (init : List (View.Piece (Elt F) S976 .f32)) (s : S16.Idx → Elt F .f32)
    (hp : ∀ p ∈ init, ∀ x, p.2 x = outRow Tb Ix b (p.1.emb x 0).val)
    (hoff : init.map (fun p => p.1.off 0) = (List.range 60).reverse.map (16 * ·))
    (hdim : init.map (fun p => (p.1.size 0, p.1.stride 0)) = List.replicate 60 (16, 1))
    (hs : ∀ x, s x = laneSum Tb Ix b 15) (y : S976.Idx) (hy : (y 0).val < 961) :
    wV.view.read (Elt F) (wV.view.writes (Elt F) fw (init ++ [⟨Rect.unit (s := S976) ![945] S16.size inb_S976_S16_945, s⟩])) y
      = outRow Tb Ix b (y 0).val := by
  have hd : ∀ p ∈ init, p.1.size 0 = 16 ∧ p.1.stride 0 = 1 := fun p hm =>
    Prod.mk.inj (List.eq_of_mem_replicate (hdim ▸ List.mem_map_of_mem hm))
  have hset : ∀ p ∈ init, (y ∈ p.1.set ↔ p.1.off 0 ≤ (y 0).val ∧ (y 0).val < p.1.off 0 + 16) := fun p hm => by
    obtain ⟨h1, h2⟩ := hd p hm
    rw [LoadRect.mem_set]
    constructor
    · intro h
      obtain ⟨k, hk, e⟩ := h 0
      rw [h2] at e; rw [h1] at hk; omega
    · intro h a
      match a with
      | 0 => exact ⟨(y 0).val - p.1.off 0, by rw [h1]; omega, by rw [h2]; omega⟩
  rw [View.writes_append]
  by_cases h : (y 0).val < 960
  · refine View.read_writes_apply_of_pieces wV.view _ (fun y => outRow Tb Ix b (y 0).val) init hp y ?_
    have hk : 16 * ((y 0).val / 16) ∈ init.map (fun p => p.1.off 0) := by
      rw [hoff]
      exact List.mem_map_of_mem (List.mem_reverse.mpr (List.mem_range.mpr (by omega)))
    obtain ⟨p, hm, e⟩ := List.mem_map.mp hk
    exact ⟨p, hm, (hset p hm).mpr (by omega)⟩
  · have h' : (y 0).val = 960 := by omega
    rw [View.read_writes_apply_of_forall_not_mem _ _ _ _ (fun p hm => by
      rw [hset p hm]
      have hk : p.1.off 0 ∈ init.map (fun p => p.1.off 0) := List.mem_map_of_mem hm
      rw [hoff] at hk
      obtain ⟨k, hk, e⟩ := List.mem_map.mp hk
      have := List.mem_range.mp (List.mem_reverse.mp hk)
      omega)]
    have e : y = (Rect.unit (s := S976) ![945] S16.size inb_S976_S16_945).emb (show S16.Idx from fun a => ⟨15, by fin_cases a; decide⟩) :=
      funext fun a => Fin.ext (by
        match a with
        | 0 => show (y 0).val = 945 + 1 * 15; omega)
    rw [h', show outRow Tb Ix b 960 = laneSum Tb Ix b 15 from rfl, e]
    exact (View.read_writes_cons_emb wV.view _ _ _ _ _).trans (hs _)

end Cert.Proof

end
-- ==== Proof.Tile.lean ====
/-
  One tile's run of the body, stated once at a symbolic tile: a tile of one of the four rows copies its index row in,
  gathers the sixteen pieces the row names, writes the 961 columns of its output row in its own memory and copies the
  row out; every other tile returns at once.
-/
module

public import proofs.«01_k».proof.Proof.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## The tile, its row, and the row's slices -/

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- The body's condition says that the tile has a row. -/
theorem cond_lt : ∀ i : grid0.Coords, k0_cond1 i = 1#1 ↔ (i 1).val < 4 := by decide +kernel
theorem core_zero : ∀ i : grid0.Coords, (i 0).val = 0 := by decide +kernel

/-- The tile's row of the indices and of the output, as the body slices and squeezes them, and the whole table. -/
abbrev iRowV (h : k0_cond1 L = 1#1) : Memref sig .scVector .hbm S16 .i32 :=
  (iV.slice (Rect.unit (s := S4x16) (k0_off1 L) S1x16.size (k0_off1_inb L h)) (fun _ => rfl)).squeeze S16 squeezes_S1x16_S16
abbrev oRowV (h : k0_cond1 L = 1#1) : Memref sig .scVector .hbm S976 .f32 :=
  (oV.slice (Rect.unit (s := S4x976) (k0_off2 L) S1x976.size (k0_off2_inb L h)) (fun _ => rfl)).squeeze S976 squeezes_S1x976_S976
abbrev tAllV : Memref sig .scVector .hbm S262144x128 .f32 :=
  tV.slice (Rect.unit (s := S262144x128) ![0, 0] S262144x128.size inb_S262144x128_S262144x128_0_0) (fun _ => rfl)

theorem set_iRowV (h : k0_cond1 L = 1#1) : (iRowV L h).view.set = iRowSet (jL L) := by
  show (((View.whole (main_v17_scv : Ref sig .scVector)).slice (Rect.unit (s := S4x16) (k0_off1 L) S1x16.size (k0_off1_inb L h))).reshape S16 squeezes_S1x16_S16.numel_eq).set = _
  rw [View.set_reshape, View.set_slice]
  refine Finset.map_refl.trans ?_
  ext x
  have h1 : (x 1).val < 16 := (x 1).isLt
  have h0 := core_zero L
  rw [Rect.mem_set_unit, iRowSet, Finset.mem_filter, k0_off1_eq]
  constructor
  · intro hx
    have := hx 0
    refine ⟨Finset.mem_univ _, ?_⟩
    simp at this ⊢
    omega
  · rintro ⟨-, hx⟩ a
    match a with
    | 0 => simp at hx ⊢; omega
    | 1 => simp; omega

theorem set_oRowV (h : k0_cond1 L = 1#1) : (oRowV L h).view.set = oRowSet (jL L) := by
  show (((View.whole (main_v18_scv : Ref sig .scVector)).slice (Rect.unit (s := S4x976) (k0_off2 L) S1x976.size (k0_off2_inb L h))).reshape S976 squeezes_S1x976_S976.numel_eq).set = _
  rw [View.set_reshape, View.set_slice]
  refine Finset.map_refl.trans ?_
  ext x
  have h1 : (x 1).val < 976 := (x 1).isLt
  have h0 := core_zero L
  rw [Rect.mem_set_unit, oRowSet, Finset.mem_filter, k0_off2_eq]
  constructor
  · intro hx
    have := hx 0
    refine ⟨Finset.mem_univ _, ?_⟩
    simp at this ⊢
    omega
  · rintro ⟨-, hx⟩ a
    match a with
    | 0 => simp at hx ⊢; omega
    | 1 => simp; omega

theorem pts_iRowV (h : k0_cond1 L = 1#1) (f : Buf (Elt F) (iLoc d)) :
    ((iRowV L h).view.loc (V d (cV L) (jV L)) ↦[(iRowV L h).view.set]{fullShare} f : sProp 𝕄) = iLoc d ↦[iRowSet (jL L)]{fullShare} f := by
  rw [set_iRowV]
theorem pts_oRowV (h : k0_cond1 L = 1#1) (f : Buf (Elt F) (oLoc d)) :
    ((oRowV L h).view.loc (V d (cV L) (jV L)) ↦[(oRowV L h).view.set]{fullShare} f : sProp 𝕄) = oLoc d ↦[oRowSet (jL L)]{fullShare} f := by
  rw [set_oRowV]
theorem pts_tV (q : PosShare TreeShare) (f : Buf (Elt F) (tLoc d)) :
    (tV.view.loc (V d (cV L) (jV L)) ↦{q} f : sProp 𝕄) = tLoc d ↦{q} f := rfl
theorem pts_sV (f : Buf (Elt F) ((V d (cV L) (jV L)).loc cc0_scratch0)) :
    (sV.view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    (rV.view.loc (V d (cV L) (jV L)) ↦{fullShare} f : sProp 𝕄) = (V d (cV L) (jV L)).loc cc0_scratch1 ↦{fullShare} f := rfl
theorem pts_wV (f : Buf (Elt F) ((V d (cV L) (jV L)).loc cc0_scratch2)) :
    (wV.view.loc (V d (cV L) (jV L)) ↦{fullShare} f : sProp 𝕄) = (V d (cV L) (jV L)).loc cc0_scratch2 ↦{fullShare} f := rfl

/-! ## The tile's own semaphores and scratch -/

/-- The tile's three counters: of the index copy, of the gather, of the copy out. -/
abbrev idxCell (d : Dev nD) (c : Fin τ.nSC) (i : Fin τ.nSub) : GSem nD τ sig := (V d c i, .dma cc0_scoped0.sem)
abbrev gatCell (d : Dev nD) (c : Fin τ.nSC) (i : Fin τ.nSub) : GSem nD τ sig := (V d c i, .dma cc0_scratch3.sem)
abbrev outCell (d : Dev nD) (c : Fin τ.nSC) (i : Fin τ.nSub) : GSem nD τ sig := (V d c i, .dma cc0_scratch4.sem)

theorem ownSems0_tile :
    (ownSems0 (V d (cV L) (jV L)) : sProp 𝕄)
      = iprop(semVal (idxCell d (cV L) (jV L)) 0 ∗ semVal (gatCell d (cV L) (jV L)) 0 ∗ semVal (outCell d (cV L) (jV L)) 0
          ∗ bigSep ((((ownCells (V d (cV L) (jV L))).erase (idxCell d (cV L) (jV L))).erase (gatCell d (cV L) (jV L))).erase (outCell d (cV L) (jV L))) fun g => semVal g 0) := by
  have own (s : DmaSem sig) (h : (SemLoc.dma s : SemLoc sig).isScoped .scVector = true) :
      ((V d (cV L) (jV L), .dma s) : GSem nD τ sig) ∈ ownCells (V d (cV L) (jV L)) := mem_ownCells.mpr ⟨rfl, h⟩
  have ne {s s' : DmaSem sig} (h : s ≠ s') : ((V d (cV L) (jV L), .dma s) : GSem nD τ sig) ≠ (V d (cV L) (jV L), .dma s') :=
    fun e => h (SemLoc.dma.inj (Prod.mk.inj e).2)
  unfold SparseCore.Cfg.ownSems0
  rw [SparseCore.bigSep_erase' (own cc0_scoped0.sem (by decide)),
    SparseCore.bigSep_erase' (Finset.mem_erase.mpr ⟨ne (by decide), own cc0_scratch3.sem (by decide)⟩),
    SparseCore.bigSep_erase' (Finset.mem_erase.mpr ⟨ne (by decide), Finset.mem_erase.mpr ⟨ne (by decide), own cc0_scratch4.sem (by decide)⟩⟩)]

theorem ownBufs_tile :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have own (r : Ref sig .scVector) (h : ((Proc.scVector (cV L) (jV L)).devRef r : DevRef τ sig).owner = .proc (Proc.scVector (cV L) (jV L))) :
      ((Proc.scVector (cV L) (jV L)).devRef r : DevRef τ sig) ∈ ownRefs (τ := τ) (.scVector (cV L) (jV L)) :=
    SparseCore.Cfg.mem_ownRefs_of_owner (p := Proc.scVector (cV L) (jV L)) h
  have ne {r r' : Ref sig .scVector} (h : r ≠ r') : ((Proc.scVector (cV L) (jV L)).devRef r : DevRef τ sig) ≠ (Proc.scVector (cV L) (jV L)).devRef r' :=
    fun e => h (Proc.devRef_injective _ e)
  unfold SparseCore.Cfg.ownBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩)]

/-! ## The value a tile's copies carry -/

/-- Entry `c` of the tile's index row, and column `c` of its output row, in the whole arrays. -/
theorem emb_iRowV (h : k0_cond1 L = 1#1) (c : S16.Idx) : (iRowV L h).view.emb c = place 4 16 (L 1).val (c 0).val := by
  have hL : (L 1).val < 4 := (cond_lt L).mp h
  have h0 := core_zero L
  have e : Shape.reshapeEquiv (s := S1x16) (s' := S16) squeezes_S1x16_S16.numel_eq c = Shape.pair (d := ![1, 16]) ⟨0, Nat.one_pos⟩ (c 0) := by
    apply Shape.reshapeEquiv_eq_of_rowMajor
    simp [Shape.rowMajor_val_two, Shape.rowMajor_val_one, Shape.pair]
  have e2 : (iRowV L h).view.emb c = (Rect.unit (s := S4x16) (k0_off1 L) S1x16.size (k0_off1_inb L h)).emb
      (Shape.reshapeEquiv (s := S1x16) (s' := S16) squeezes_S1x16_S16.numel_eq c) := rfl
  rw [e2, e]
  refine eq_place _ ?_ ?_
  · show (k0_off1 L) 0 + 1 * 0 = _
    rw [k0_off1_eq]; simp; omega
  · show (k0_off1 L) 1 + 1 * (c 0).val = _
    rw [k0_off1_eq]; simp

theorem emb_oRowV (h : k0_cond1 L = 1#1) (c : S976.Idx) : (oRowV L h).view.emb c = place 4 976 (L 1).val (c 0).val := by
  have hL : (L 1).val < 4 := (cond_lt L).mp h
  have h0 := core_zero L
  have e : Shape.reshapeEquiv (s := S1x976) (s' := S976) squeezes_S1x976_S976.numel_eq c = Shape.pair (d := ![1, 976]) ⟨0, Nat.one_pos⟩ (c 0) := by
    apply Shape.reshapeEquiv_eq_of_rowMajor
    simp [Shape.rowMajor_val_two, Shape.rowMajor_val_one, Shape.pair]
  have e2 : (oRowV L h).view.emb c = (Rect.unit (s := S4x976) (k0_off2 L) S1x976.size (k0_off2_inb L h)).emb
      (Shape.reshapeEquiv (s := S1x976) (s' := S976) squeezes_S1x976_S976.numel_eq c) := rfl
  rw [e2, e]
  refine eq_place _ ?_ ?_
  · show (k0_off2 L) 0 + 1 * 0 = _
    rw [k0_off2_eq]; simp; omega
  · show (k0_off2 L) 1 + 1 * (c 0).val = _
    rw [k0_off2_eq]; simp

variable [FloatOps F]

/-- The gather leaves the sixteen pieces that the tile's index row names. -/
theorem gathered (h : k0_cond1 L = 1#1) (fs : Buf (Elt F) ((V d (cV L) (jV L)).loc cc0_scratch0)) (w : S16.Idx → Elt F .i32)
    (hw : w = (iRowV L h).view.read (Elt F) (Ix m d)) (hn : S16.numel = S16x128.size gathers_S262144x128_S16x128.axis')
    (hin : ∀ x, (sV.view.read (Elt F) (View.write (Elt F) sV.view fs w Finset.univ) x).toNat < S262144x128.size gathers_S262144x128_S16x128.axis) :
    Gathered (Tb m d) (Ix m d) (L 1).val
      (SparseCore.gatherPayload gathers_S262144x128_S16x128 (tAllV.view.read (Elt F) (Tb m d))
        (SparseCore.rows (sV.view.read (Elt F) (View.write (Elt F) sV.view fs w Finset.univ)) hn hin)) := by
  intro r hr l hl
  have hrow : ∀ c : S16.Idx, sV.view.read (Elt F) (View.write (Elt F) sV.view fs w Finset.univ) c = Ix m d (place 4 16 (L 1).val (c 0).val) := by
    intro c
    rw [View.write_whole_univ]
    simp only [Memref.view_whole, View.read_whole]
    subst hw
    rw [← emb_iRowV L h c]
    exact (View.read_apply _ _).trans (cast_eq _ _)
  have ht : ∀ y : S262144x128.Idx, tAllV.view.read (Elt F) (Tb m d) y = Tb m d y := by
    intro y
    refine ((View.read_apply _ _).trans (cast_eq _ _)).trans (congrArg (Tb m d) ?_)
    refine (eq_place _ (r := (y 0).val) (c := (y 1).val) ?_ ?_).trans (eq_place _ rfl rfl).symm
    · show 0 + 1 * (y 0).val = _; omega
    · show 0 + 1 * (y 1).val = _; omega
  unfold SparseCore.gatherPayload
  rw [ht]
  unfold piece
  refine congrArg (Tb m d) (eq_place _ ?_ ?_)
  · have e := congrArg Fin.val (Shape.Gathers.idx_axis gathers_S262144x128_S16x128
      (SparseCore.rows (sV.view.read (Elt F) (View.write (Elt F) sV.view fs w Finset.univ)) hn hin) (place 16 128 r l))
    refine e.trans ?_
    show (sV.view.read (Elt F) (View.write (Elt F) sV.view fs w Finset.univ) _).toNat = _
    rw [hrow]
    refine congrArg (fun k => (Ix m d (place 4 16 (L 1).val k)).toNat) ?_
    refine (Shape.rowMajor_val_one _).symm.trans ?_
    rw [Equiv.apply_symm_apply]
    exact place_zero (n := 16) (k := 128) (c := l) hr
  · refine (Shape.Gathers.idx_of_ne gathers_S262144x128_S16x128 _ _ 1 (by decide)).trans ?_
    exact place_one (n := 16) (k := 128) (r := r) hl

/-- The row copied out is the row's value where it is so in the tile's own memory. -/
theorem rowOK_of (h : k0_cond1 L = 1#1) (f : Buf (Elt F) (oLoc d)) (w : S976.Idx → Elt F .f32)
    (hw : ∀ c : S976.Idx, (c 0).val < 961 → w c = outRow (Tb m d) (Ix m d) (L 1).val (c 0).val) :
    RowOK m d (jL L) ((oRowV L h).view.writes (Elt F) f [⟨Rect.whole S976, w⟩]) := by
  intro x hx hlt
  rw [← set_oRowV L h] at hx
  obtain ⟨c, -, rfl⟩ := Finset.mem_map.mp hx
  have h0 : (c 0).val < 976 := (c 0).isLt
  have hc : ((oRowV L h).view.emb c 1).val = (c 0).val := by
    rw [emb_oRowV, place_one h0]
  rw [hc] at hlt ⊢
  refine Eq.trans ?_ (hw c hlt)
  have hr : ∀ y, (oRowV L h).view.read (Elt F) ((oRowV L h).view.writes (Elt F) f [⟨Rect.whole S976, w⟩]) y = w y := fun y => by
    refine View.read_writes_apply_of_pieces (oRowV L h).view _ w _ ?_ y ⟨_, List.mem_singleton_self _, ?_⟩
    · intro p hp x
      rw [List.mem_singleton] at hp; subst hp
      exact congrArg w (funext fun a => Fin.ext (by simp [Rect.whole, Rect.emb]))
    · rw [Rect.set_whole]; exact Finset.mem_univ y
  exact ((View.read_apply _ _).trans (cast_eq _ _)).symm.trans (hr c)

/-! ## The run -/

/-- Every word of the index list that the index copy lands is an entry of the tile's index row, so it names a row of the
    table. -/
theorem list_inRange (h : k0_cond1 L = 1#1) (hpre : InRange m) (fs : Buf (Elt F) ((V d (cV L) (jV L)).loc cc0_scratch0)) (w : S16.Idx → Elt F .i32)
    (hw : w = (iRowV L h).view.read (Elt F) (Ix m d)) :
    ∀ x, (sV.view.read (Elt F) (View.write (Elt F) sV.view fs w Finset.univ) x).toNat < S262144x128.size gathers_S262144x128_S16x128.axis := by
  subst hw; intro x
  rw [View.write_whole_univ]
  simp only [Memref.view_whole, View.read_whole]
  rw [show ∀ j, (iRowV L h).view.read (Elt F) (Ix m d) j = Ix m d ((iRowV L h).view.emb j) from fun j => (View.read_apply _ _).trans (cast_eq _ _)]
  exact hpre d _

set_option maxHeartbeats 4000000 in
theorem tile_run (hF : (K (F := F)).Facts) (hpre : InRange m) (O : CellTallies nD τ sig (HIx 1)) (W : Waits sig (HIx 1)) (hO : ∀ g, O g none = 0)
    (h : k0_cond1 L = 1#1) :
    iprop(levAts (K (F := F)).L (K (F := F)).lev ∗ emp ∗ taskIn m d (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L tV (Memref.isWhole_whole _) iV (Memref.isWhole_whole _) oV (Memref.isWhole_whole _)
            sV (Memref.isWhole_whole _) rV (Memref.isWhole_whole _) wV (Memref.isWhole_whole _) cc0_scratch3 cc0_scratch4 cc0_scoped0)
          fun _ => iprop(taskOut m d (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__body_eq_skeleton]; unfold cc0__body_skel
  rw [(K (F := F)).scopedBufs_V hF d (cV L) (jV L), SparseCore.Cfg.scopedSems0_V (Val := Elt F) d (cV L) (jV L), ownSems0_tile, ownBufs_tile]
  iintro ⟨#Hlv, -, ⟨Ht, Hi, Ho⟩, ⟨⟨%fs, Hs⟩, ⟨%fr, Hr⟩, ⟨%fw, Hw⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowV (F := F) d L h _).symm) $$ Hi
  ihave Ho' := (Entails.of_eq (pts_oRowV (F := F) d L h _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  ihave Hw' := (Entails.of_eq (pts_wV (F := F) d L _).symm) $$ Hw
  have hin : ∀ fs : Buf (Elt F) ((V d (cV L) (jV L)).loc cc0_scratch0), ∀ x, (sV.view.read (Elt F) (View.write (Elt F) sV.view fs ((iRowV L h).view.read (Elt F) (Ix m d)) Finset.univ) x).toNat < S262144x128.size gathers_S262144x128_S16x128.axis :=
    fun fs => list_inRange m d L h hpre fs _ rfl
  sl_exec
  have hq : Gathered (Tb m d) (Ix m d) (L 1).val (tile_run.sl.gather1 m d L h fs hin) := gathered m d L h fs _ rfl _ _
  have hrow : ∀ c : S976.Idx, (c 0).val < 961 → tile_run.sl.dma186 m d L h fs fw hin c = outRow (Tb m d) (Ix m d) (L 1).val (c 0).val := by
    refine row_value (Tb := Tb m d) (Ix := Ix m d) (b := (L 1).val) fw (List.take 60 (tile_run.sl.Hw'_61 m d L h fs hin)) _ ?_ ?_ ?_
      (sum_apply _ _ _ _ (lanes_apply hq _ _ _ _ rfl rfl rfl rfl))
    · delta tile_run.sl.Hw'_61
      iterate 60 refine List.forall_mem_cons.mpr ⟨store_ok hq (by rfl) (by decide), ?_⟩
      exact fun p hp => absurd hp List.not_mem_nil
    · rfl
    · rfl
  have hok : RowOK m d (jL L) ((oRowV L h).view.writes (Elt F) (V1 m d (Proc.devRef .tc main_v18)) [⟨Rect.whole S976, tile_run.sl.dma186 m d L h fs fw hin⟩]) :=
    rowOK_of m d L h _ _ hrow
  sl_step
  isplitl [Ht' Hi' Ho']
  · isplitl [Ht']
    · iapply (Entails.of_eq (pts_tV (F := F) d L _ _)); iexact Ht'
    isplitl [Hi']
    · iapply (Entails.of_eq (pts_iRowV (F := F) d L h _)); iexact Hi'
    iexists _
    isplitr
    swap
    · iapply (Entails.of_eq (pts_oRowV (F := F) d L h _)); iexact Ho'
    ipureintro; exact hok
  isplitl [Hs' Hr' Hw' Hbufs]
  · isplitl [Hs']
    · iexists _; iexact Hs'
    isplitl [Hr']
    · iexists _; iexact Hr'
    isplitl [Hw']
    · iexists _; iexact Hw'
    iexact Hbufs
  isplitl [HsemA HsemB HsemC Hsems]
  · isplitl [HsemA]
    · iexact HsemA
    isplitl [HsemB]
    · iexact HsemB
    isplitl [HsemC]
    · iexact HsemC
    iexact Hsems
  iexists _
  isplitr
  swap
  · iexact HO
  ipureintro
  intro p hp
  simp only [Finset.mem_insert] at hp
  rcases hp with rfl | rfl | rfl | hp
  · exact .inr rfl
  · exact .inr rfl
  · exact .inr rfl
  · exact .inl hp

/-- A tile of no row brings back what it was given: no place of the output is of its row. -/
theorem rowOK_idle (i : Fin 16) (hi : ¬ i.val < 4) (f : Buf (Elt F) (oLoc d)) : RowOK m d i f := by
  intro x hx
  have h0 : (x 0).val < 4 := (x 0).isLt
  rw [oRowSet, Finset.mem_filter] at hx
  omega

theorem tile_body (hF : (K (F := F)).Facts) (hpre : InRange m) (O : CellTallies nD τ sig (HIx 1)) (W : Waits sig (HIx 1)) (hO : ∀ g, O g none = 0) :
    iprop(levAts (K (F := F)).L (K (F := F)).lev ∗ emp ∗ taskIn m d (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L tV (Memref.isWhole_whole _) iV (Memref.isWhole_whole _) oV (Memref.isWhole_whole _)
            sV (Memref.isWhole_whole _) rV (Memref.isWhole_whole _) wV (Memref.isWhole_whole _) cc0_scratch3 cc0_scratch4 cc0_scoped0)
          fun _ => iprop(taskOut m d (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h : k0_cond1 L = 1#1
  · exact tile_run m d L hF hpre O W hO h
  have hok := rowOK_idle m d (jL L) (fun hi => h ((cond_lt L).mpr hi)) (Ov m d)
  simp only [cc0__body_eq_skeleton]; unfold cc0__body_skel
  iintro ⟨#Hlv, -, ⟨Ht, Hi, Ho⟩, Hb, Hs, HO⟩
  sl_exec
  sl_step
  isplitl [Ht Hi Ho]
  · isplitl [Ht]
    · iexact Ht
    isplitl [Hi]
    · iexact Hi
    iexists _
    isplitr
    swap
    · iexact Ho
    ipureintro; exact hok
  isplitl [Hb]
  · iexact Hb
  isplitl [Hs]
  · iexact Hs
  iexists W
  isplitr
  swap
  · iexact HO
  ipureintro; exact fun p hp => .inl hp

end Cert.Proof

end
-- ==== Proof.Launch.lean ====
/-
  The launch: the tiles' obligation from the body's run, the table's shares and the rows dealt to the tiles and brought
  back together, `@main` on the TensorCore, and the run of the whole program with the value it leaves in the result.
-/
module

public import proofs.«01_k».proof.Proof.Tile
public import Idealize.ShloMosaic.Lib.Pipeline.FrameTail

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tiles' obligation -/

/-- The place in the grid of core `c`, tile `s`. -/
def gridAt (c : Fin (grid0.bound 0)) (s : Fin (grid0.bound 1)) : grid0.Coords :=
  fun | 0 => c | 1 => s | ⟨_ + 2, h⟩ => absurd h (Nat.not_lt.2 (Nat.le_add_left _ _))

/-- A tile's part of the call is the body at its place in the grid. -/
theorem body_at (c : Fin τ.nSC) (s : Fin τ.nSub) :
    defs₀ (F := F) (.scVector c s) 0 ()
      = SparseCore.onTile hcore0 hsub0 (fun c s => cc0__body (gridAt c s) tV (Memref.isWhole_whole _) iV (Memref.isWhole_whole _)
          oV (Memref.isWhole_whole _) sV (Memref.isWhole_whole _) rV (Memref.isWhole_whole _) wV (Memref.isWhole_whole _)
          cc0_scratch3 cc0_scratch4 cc0_scoped0) ⟨⟩ c s := rfl

omit [FloatOps F] in
/-- The body's waits are all its own, so that they are waits of its own or of call `q`. -/
theorem own_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]
  · iexact HA
  isplitl [HB]
  · iexact HB
  isplitl [HC]
  · iexact HC
  iexists W'
  isplitr
  swap
  · iexact HO
  ipureintro; intro p hp
  exact (h p hp).elim .inl fun e => .inr (.inl e)

set_option maxRecDepth 16384 in
theorem tile_obl (hpre : InRange m) : (K (F := F)).TileObl (D (F := F)) 𝒱 (P m) v₀ 0 := by
  intro d c i O W hO _ _
  simp only [show (P m).ox = fun _ _ => 0 from rfl, add_zero]
  have hlt : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body_at]; simp only [SparseCore.onTile, hlt, and_self, ↓reduceDIte]
  exact (tile_body m d (gridAt ⟨_, hlt.1⟩ ⟨_, hlt.2⟩) launchFacts hpre O W hO).trans (wp_mono frame _ _ fun _ => own_waits)

/-! ## What the tiles take and bring back -/

section Deal

omit [FloatOps F]

theorem tPts_dealt (d : Dev nD) (f : Buf (Elt F) (tLoc d)) :
    (tLoc d ↦{fullShare} f : sProp 𝕄) = bigSep Finset.univ fun i : Fin 16 => tLoc d ↦{tq i} f :=
  ShareLeaves.pointsTo_leaves Finset.univ f 4 fullShare

theorem iPts_dealt (d : Dev nD) (f : Buf (Elt F) (iLoc d)) :
    (iLoc d ↦{fullShare} f : sProp 𝕄) = bigSep Finset.univ fun i : Fin 16 => iLoc d ↦[iRowSet i]{fullShare} f := by
  rw [← pointsTo_biUnion Finset.univ (ℓ := iLoc d) iRowSet iRows_disjoint, iRows_cover]; try rfl

theorem oPts_dealt (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet oRows_disjoint, oRows_cover]; try rfl

/-- The call's tiles are the sixteen rows' owners. -/
theorem by_tile (Φ : Fin 16 → sProp 𝕄) :
    (bigSep Finset.univ fun i : Fin ((K (F := F)).nSub 0) => Φ (Fin.cast tiles_sixteen i)) = bigSep Finset.univ Φ :=
  bigSep_congr fun _ _ => congrArg Φ (Fin.ext rfl)

end Deal

/-- Contents that agree on every row with rows at their values are at the rows' values everywhere. -/
theorem allOK_of_rows (d : Dev nD) (fs : Fin 16 → Buf (Elt F) (oLoc d)) (hfs : ∀ i ∈ (Finset.univ : Finset (Fin 16)), RowOK m d i (fs i))
    (g : Buf (Elt F) (oLoc d)) (hg : ∀ i ∈ (Finset.univ : Finset (Fin 16)), ∀ x ∈ oRowSet i, g x = fs i x) : AllOK m d g := by
  intro x hx
  have h0 : (x 0).val < 4 := (x 0).isLt
  have hm : x ∈ oRowSet ⟨(x 0).val, by omega⟩ := Finset.mem_filter.mpr ⟨Finset.mem_univ x, rfl⟩
  exact (hg _ (Finset.mem_univ _) x hm).trans (hfs _ (Finset.mem_univ _) x hm hx)

set_option maxRecDepth 4096 in
/-- The rows brought back, each at its value, are the output whole at the rows' values. -/
theorem oRows_back (d : Dev nD) :
    (bigSep Finset.univ fun i : Fin 16 => iprop(∃ f, ⌜RowOK m d i f⌝ ∗ oRow d i f)) ⊢ (iprop(∃ f, ⌜AllOK m d f⌝ ∗ oPts d f) : sProp 𝕄) := by
  have : Nonempty (Buf (Elt F) (oLoc d)) := ⟨Ov m d⟩
  refine (bigSep_exists_pi Finset.univ (fun i (f : Buf (Elt F) (oLoc d)) => iprop(⌜RowOK m d i f⌝ ∗ oRow d i f))).trans ?_
  iintro ⟨%fs, H⟩
  ihave H1 := (bigSep_pure_sep Finset.univ (fun i => RowOK m d i (fs i)) (fun i => oRow d i (fs i))) $$ H
  icases H1 with ⟨%hfs, H1⟩
  ihave H2 := (pointsTo_biUnion_join (ℓ := oLoc d) (q := fullShare) (Val := Elt F) Finset.univ oRowSet fs (fs 0) oRows_disjoint) $$ H1
  icases H2 with ⟨%g, %hg, Hg⟩
  rw [oRows_cover]
  iexists g
  isplitr
  swap
  · iexact Hg
  ipureintro; exact allOK_of_rows m d fs hfs g hg

/-- The call deals the tiles the table's shares and the rows, and has all of it back from them. -/
theorem deal : (K (F := F)).VecSplit' (P m) 0 := by
  intro d c
  show iprop(tPts m d ∗ iPts m d ∗ oPts d (Ov m d)) ⊢ |={Set.univ}=> iprop(
      (bigSep Finset.univ fun i : Fin ((K (F := F)).nSub 0) =>
        iprop(tShare m d (Fin.cast tiles_sixteen i) ∗ iRow m d (Fin.cast tiles_sixteen i) ∗ oRow d (Fin.cast tiles_sixteen i) (Ov m d)))
      ∗ ((bigSep Finset.univ fun i : Fin ((K (F := F)).nSub 0) =>
          iprop(tShare m d (Fin.cast tiles_sixteen i) ∗ iRow m d (Fin.cast tiles_sixteen i)
            ∗ ∃ f, ⌜RowOK m d (Fin.cast tiles_sixteen i) f⌝ ∗ oRow d (Fin.cast tiles_sixteen i) f))
          -∗ iprop(tPts m d ∗ iPts m d ∗ ∃ f, ⌜AllOK m d f⌝ ∗ oPts d f)))
  rw [by_tile (F := F) (fun i => iprop(tShare m d i ∗ iRow m d i ∗ oRow d i (Ov m d))),
    by_tile (F := F) (fun i => iprop(tShare m d i ∗ iRow m d i ∗ ∃ f, ⌜RowOK m d i f⌝ ∗ oRow d i f)), bigSep_sep', bigSep_sep', bigSep_sep', bigSep_sep']
  unfold tPts iPts tShare iRow
  rw [tPts_dealt, iPts_dealt, show (oPts d (Ov m d) : sProp 𝕄) = _ from oPts_dealt d (Ov m d)]
  iintro H; imodintro
  isplitl [H]
  · iexact H
  iintro ⟨Ht, Hi, Ho⟩
  isplitl [Ht]
  · iexact Ht
  isplitl [Hi]
  · iexact Hi
  iapply (oRows_back m d); iexact Ho

/-! ## The ghost state at launch -/

def u₀ : UU := (initOf (K (F := F)).hsCells (K (F := F)).hsToks, 1)

theorem ghost_dealt : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr)
      = bigSep Finset.univ fun _ => (iprop(emp) : sProp 𝕄) := bigSep_congr fun _ _ => bigSep_univ_of_subsingleton (0 : Fin 1)
  have hemp {I : Type} (s : Finset I) : (bigSep s fun _ => iprop(emp)) = (iprop(emp) : sProp 𝕄) := bigSep_emp_const s
  unfold u₀
  rw [hx, hemp, hemp]
  iintro Hu
  ihave H := (ownU_pair (initOf (K (F := F)).hsCells (K (F := F)).hsToks) (1 : Counters)) $$ Hu
  icases H with ⟨H, -⟩
  imodintro
  isplitl [H]
  · iexact H
  isplitr <;> iempintro

/-! ## `@main` on the TensorCore -/

/-- The arguments and the result. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev rLoc (d : Dev nD) : Loc nD τ sig := (SparseCore.T d).loc main_v19

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev t' : DevRef τ sig := Proc.devRef .tc (main_v0 : Ref sig .tc)
abbrev i' : DevRef τ sig := Proc.devRef .tc (main_v17 : Ref sig .tc)
abbrev o' : DevRef τ sig := Proc.devRef .tc (main_v18 : Ref sig .tc)
abbrev r' : DevRef τ sig := Proc.devRef .tc (main_v19 : Ref sig .tc)

/-- Every array of the TensorCore, the three of the call, and the four the claims read. -/
abbrev arrays : Finset (DevRef τ sig) := Pipeline.ucRefs τ sig
abbrev ofCall : Finset (DevRef τ sig) := {t', i', o'}
abbrev ofClaim : Finset (DevRef τ sig) := {a0', a1', a2', r'}

theorem ofCall_sub : ofCall ⊆ arrays := by
  intro b hb
  simp only [ofCall, Finset.mem_insert, Finset.mem_singleton] at hb
  rcases hb with rfl | rfl | rfl <;> exact Pipeline.devRef_mem_ucRefs rfl

theorem ofClaim_sub : ofClaim ⊆ arrays := by
  intro b hb
  simp only [ofClaim, Finset.mem_insert, Finset.mem_singleton] at hb
  rcases hb with rfl | rfl | rfl | rfl <;> exact Pipeline.devRef_mem_ucRefs rfl

section Held

omit [FloatOps F]

theorem held_ofCall (d : Dev nD) (W : Valuation τ sig (Elt F)) :
    (held (SparseCore.T d) ofCall W : sProp 𝕄) = iprop((tLoc d ↦{fullShare} W t') ∗ (iLoc d ↦{fullShare} W i') ∗ oLoc d ↦{fullShare} W o') := by
  unfold held
  rw [SparseCore.bigSep_insert' (by decide), SparseCore.bigSep_insert' (by decide), bigSep_singleton]

theorem held_ofClaim (d : Dev nD) (W : Valuation τ sig (Elt F)) :
    (held (SparseCore.T d) ofClaim W : sProp 𝕄)
      = iprop((a0Loc d ↦{fullShare} W a0') ∗ (a1Loc d ↦{fullShare} W a1') ∗ (a2Loc d ↦{fullShare} W a2')
          ∗ rLoc d ↦{fullShare} W r') := by
  unfold held
  rw [SparseCore.bigSep_insert' (by decide), SparseCore.bigSep_insert' (by decide), SparseCore.bigSep_insert' (by decide), bigSep_singleton]

/-- The arrays at launch. -/
theorem arrays_launch (d : Dev nD) : (unscopedBufs d (fun b => m ((SparseCore.T d).loc b)) : sProp 𝕄) = held (SparseCore.T d) arrays (V0 m d) :=
  Pipeline.unscopedBufs_held d (V0 m d)

theorem hostOps_bufs : ∀ op ∈ hostOps (F := F), op.bufs ⊆ arrays := by
  intro op hop
  refine Pipeline.sub_ucRefs op ?_
  revert op
  refine List.forall_iff_forall_mem.mp ?_
  exact ⟨StableHlo.reshape_bufs_sub _ _ _ _ _ _, StableHlo.nullary_bufs_sub _ _ _, StableHlo.nullary_bufs_sub _ _ _, StableHlo.unary_bufs_sub _ _ _ _ _,
    StableHlo.binary_bufs_sub _ _ _ _ _ _ _, StableHlo.binary_bufs_sub _ _ _ _ _ _ _, StableHlo.binary_bufs_sub _ _ _ _ _ _ _,
    StableHlo.unary_bufs_sub _ _ _ _ _, StableHlo.unary_bufs_sub _ _ _ _ _, StableHlo.binary_bufs_sub _ _ _ _ _ _ _,
    StableHlo.unary_bufs_sub _ _ _ _ _, StableHlo.nullary_bufs_sub _ _ _, StableHlo.unary_bufs_sub _ _ _ _ _, StableHlo.binary_bufs_sub _ _ _ _ _ _ _,
    StableHlo.nullary_bufs_sub _ _ _, StableHlo.unary_bufs_sub _ _ _ _ _, StableHlo.unary_bufs_sub _ _ _ _ _, StableHlo.unary_bufs_sub _ _ _ _ _,
    StableHlo.binary_bufs_sub _ _ _ _ _ _ _, StableHlo.reshape_bufs_sub _ _ _ _ _ _⟩

theorem hostOps_fresh : ∀ op ∈ hostOps (F := F), op.fresh = ∅ :=
  List.forall_iff_forall_mem.mp (StableHlo.forall_fresh_of_map rfl)

/-- What the operations before the call write, in order. -/
abbrev written : List (Ref sig .tc) :=
  [main_v0, main_v1, main_c, main_v2, main_v3, main_v4, main_v5, main_v6, main_v7, main_v8, main_v9, main_c_0, main_v10, main_v11, main_v12,
    main_v13, main_v14, main_v15, main_v16, main_v17]

/-- An array they do not write is at its launch contents. -/
theorem V1_kept (d : Dev nD) (r : Ref sig .tc) (hr : r ∉ written) : V1 m d (Proc.devRef .tc r) = m ((SparseCore.T d).loc r) :=
  StableHlo.after_of_writes_sub (W := written) hostOps (V0 m d) (StableHlo.forall_writes_sub_of_map rfl) hr

/-- The arrays before the call are the three of the call and the others. -/
theorem arrays_before (d : Dev nD) :
    (held (d.tc : Thread nD τ) arrays (StableHlo.after hostOps (V0 m d)) : sProp 𝕄)
      ⊢ iprop((tPts m d ∗ iPts m d ∗ oPts d (Ov m d)) ∗ held (SparseCore.T d) (arrays \ ofCall) (V1 m d)) := by
  show held (SparseCore.T d) arrays (V1 m d) ⊢ _
  rw [StableHlo.held_sub_split (SparseCore.T d) ofCall_sub, held_ofCall]

/-- The arrays after the call, the output at `f`. -/
def V2 (d : Dev nD) (f : Buf (Elt F) (oLoc d)) : Valuation τ sig (Elt F) := Function.update (V1 m d) o' f

theorem V2_out (d : Dev nD) (f : Buf (Elt F) (oLoc d)) : V2 m d f o' = f := Function.update_self _ _ _
theorem V2_kept (d : Dev nD) (f : Buf (Elt F) (oLoc d)) (b : DevRef τ sig) (h : b ≠ o') : V2 m d f b = V1 m d b := Function.update_of_ne h _ _

/-- The arrays after the call are the three of the call and the others as they were. -/
theorem arrays_after (d : Dev nD) (f : Buf (Elt F) (oLoc d)) :
    (held (SparseCore.T d) arrays (V2 m d f) : sProp 𝕄) = iprop((tPts m d ∗ iPts m d ∗ oPts d f) ∗ held (SparseCore.T d) (arrays \ ofCall) (V1 m d)) := by
  rw [StableHlo.held_sub_split (SparseCore.T d) ofCall_sub, held_ofCall, V2_out, V2_kept m d f t' (StableHlo.devRef_ne_of_ne (by decide)),
    V2_kept m d f i' (StableHlo.devRef_ne_of_ne (by decide))]
  refine congrArg (fun h => iprop((tPts m d ∗ iPts m d ∗ oPts d f) ∗ h)) ?_
  refine StableHlo.held_congr (SparseCore.T d) fun b hb => V2_kept m d f b fun e => (Finset.mem_sdiff.mp hb).2 ?_
  rw [e]; exact Finset.mem_insert_of_mem (Finset.mem_insert_of_mem (Finset.mem_singleton_self _))

end Held

/-- The result: the 961 columns of every row, at their values. -/
def Res (d : Dev nD) : Buf (Elt F) (rLoc d) :=
  fun x : S4x961.Idx => outRow (Tb m d) (Ix m d) (x 0).val (x 1).val

theorem slice_ok (d : Dev nD) (f : Buf (Elt F) (oLoc d)) (hf : AllOK m d f) : (sliceOp (F := F)).result (V2 m d f) r' = Res m d := by
  refine (StableHlo.unary_result _ _ _ _ _ _).trans ?_
  rw [V2_out]
  funext x
  have h1 : (x 1).val < 961 := (x 1).isLt
  have e0 : ∀ y : S4x976.Idx, (y 0).val = 0 + (x 0).val → (y 1).val = 0 + (x 1).val → f y = Res m d x := fun y h0 hy => by
    rw [hf y (by omega)]; unfold Res; rw [h0, hy, Nat.zero_add, Nat.zero_add]
  exact e0 _ rfl rfl

/-- What `@main` leaves: the arguments at their launch contents, the result at its value. -/
abbrev FIN (d : Dev nD) : sProp 𝕄 :=
  iprop((a0Loc d ↦{fullShare} m (a0Loc d)) ∗ (a1Loc d ↦{fullShare} m (a1Loc d))
    ∗ (a2Loc d ↦{fullShare} m (a2Loc d)) ∗ rLoc d ↦{fullShare} Res m d)

theorem arrays_end (d : Dev nD) (f : Buf (Elt F) (oLoc d)) (hf : AllOK m d f) :
    (held (SparseCore.T d) arrays ((sliceOp (F := F)).result (V2 m d f)) : sProp 𝕄) ⊢ FIN m d := by
  have kept (r : Ref sig .tc) (h1 : (Proc.devRef .tc r : DevRef τ sig) ∉ ({r'} : Finset (DevRef τ sig)))
      (h2 : (Proc.devRef .tc r : DevRef τ sig) ≠ o') (h3 : r ∉ written) :
      (sliceOp (F := F)).result (V2 m d f) (Proc.devRef .tc r) = m ((SparseCore.T d).loc r) :=
    ((sliceOp (F := F)).result_of_not_mem (V2 m d f) h1).trans ((V2_kept m d f _ h2).trans (V1_kept m d r h3))
  rw [StableHlo.held_sub_split (SparseCore.T d) ofClaim_sub, held_ofClaim, slice_ok m d f hf,
    kept main_arg0 (by decide) (by decide) (by decide), kept main_arg1 (by decide) (by decide) (by decide), kept main_arg2 (by decide) (by decide) (by decide)]
  exact sep_elim_left

theorem st_eq (d : Dev nD) : (bigSep Finset.univ fun c : Fin ((K (F := F)).nCore 0) => (P m).st 0 d c) = callIn m d := bigSep_univ_of_subsingleton (0 : Fin 1)
theorem dn_eq (d : Dev nD) : (bigSep Finset.univ fun c : Fin ((K (F := F)).nCore 0) => (P m).dn 0 d c) = callOut m d := bigSep_univ_of_subsingleton (0 : Fin 1)

theorem sliceOp_bufs : (sliceOp (F := F)).bufs ⊆ arrays := Pipeline.sub_ucRefs _ (StableHlo.unary_bufs_sub _ _ _ _ _)

/-- `@main`: the operations before the call over every array, the call from its three arrays, the slice of what the call
    left; the arguments and the result kept, and the TensorCore's end handed back. -/
theorem main_run (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_launch, show main (F := F) d = StableHlo.seqK hostOps (((K (F := F)).run d 0) >>= fun _ => (hlo rfl sliceOp fun _ => .ret (⟨⟩ : PUnit)) >>= fun _ => pure ⟨⟩) from rfl,
    ← StableHlo.seq_bind_seqK]
  iintro ⟨#Hctx, Hst, ⟨Hb, Hh, Hts, -⟩, -⟩
  iapply (StableHlo.wp_seq (𝒱 := 𝒱) (bd := none) (E := Set.univ) d arrays _ hostOps hostOps_bufs hostOps_fresh (V0 m d)) $$ [Hb Hh]
  · isplitl [Hb]
    · iexact Hb
    iexact Hh
  iintro ⟨Hb, Hh⟩
  ihave Hh' := (arrays_before m d) $$ Hh
  icases Hh' with ⟨⟨Ht, Hi, Ho⟩, Hrest⟩
  rw [wp_bind]
  iapply ((K (F := F)).wp_run (D (F := F)) 𝒱 (EH := EH) (P := P m) κ d 0) $$ [Hst Ht Hi Ho Hb Hrest Hts]
  isplitr
  · iexact Hctx
  isplitl [Hst]
  · iexact Hst
  isplitl [Ht Hi Ho]
  · rw [st_eq]
    isplitl [Ht]
    · iexact Ht
    isplitl [Hi]
    · iexact Hi
    iexact Ho
  iintro ⟨Hst, Hdn⟩
  ihave Hdn' := (Entails.of_eq (dn_eq m d)) $$ Hdn
  icases Hdn' with ⟨Ht, Hi, %f, %hf, Ho⟩
  rw [wp_bind]
  iapply (StableHlo.wp_hlo_within 𝒱 (SparseCore.T d) none Set.univ (op := sliceOp) (S := arrays) sliceOp_bufs (V := V2 m d f)) $$ [Hb Ht Hi Ho Hrest]
  · isplitl [Hb]
    · iexact Hb
    rw [arrays_after]
    isplitr [Hrest]
    · isplitl [Ht]
      · iexact Ht
      isplitl [Hi]
      · iexact Hi
      iexact Ho
    iexact Hrest
  iintro ⟨Hb, Hh⟩
  ihave HF := (arrays_end m d f hf) $$ Hh
  rw [wp_ret]; imodintro
  rw [wp_pure]; imodintro
  isplitl [Hst]
  · iexact Hst
  isplitl [HF]
  · iexact HF
  isplitl [Hb]
  · iexact Hb
  iexact Hts

/-! ## The run -/

/-- What the claims read of device `d` at the end. -/
def EndsAt (d : Dev nD) (mem : (ℓ : Loc nD τ sig) → Buf (Elt F) ℓ) : Prop :=
  mem (a0Loc d) = m (a0Loc d) ∧ mem (a1Loc d) = m (a1Loc d)
    ∧ mem (a2Loc d) = m (a2Loc d) ∧ mem (rLoc d) = Res m d

set_option maxRecDepth 16384 in
theorem read_end (d : Dev nD) (s' : Phys nD τ sig (Elt F)) : iprop(FIN m d ∗ SI s') ⊢ (⌜EndsAt m d s'.mem.mem⌝ : sProp 𝕄) := by
  iintro ⟨⟨H0, H1, H2, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := rLoc d) (I := Finset.univ) (q := fullShare) (f := Res m d)) $$ [HSI Hr]
  · isplitl [HSI] <;> iassumption
  icases H with %hr
  ipureintro
  exact ⟨funext fun i => h0 i (Finset.mem_univ i), funext fun i => h1 i (Finset.mem_univ i), funext fun i => h2 i (Finset.mem_univ i),
    funext fun i => hr i (Finset.mem_univ i)⟩

/-- Every run of the program from `m` ends with the arguments unchanged, the result at its value and every semaphore
    at zero. -/
theorem run_main [∀ e, Nonempty (Elt F e)] (hpre : InRange m) :
    θ_run (Cert.KernelIdeal.defs (F := F)) (Cert.KernelIdeal.threads (F := F)) ⟨m, fun _ => 0, ρ⟩
      (fun r => (∀ d : Dev nD, EndsAt m d r.2.mem) ∧ r.2.sem = fun _ => 0) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tile_obl m hpre)
    (fun q _ => match q with | 0 => SparseCore.Cfg.VecSplit.of_plain (deal m))
    m ρ main (fun _ => iprop(emp)) (FIN m) (u₀ (F := F)) (sep_elim_left.trans (ghost_dealt m)) (main_run m ρ)
    (fun d s' => EndsAt m d s'.mem.mem) (read_end m) (fun r => (∀ d : Dev nD, EndsAt m d r.2.mem) ∧ r.2.sem = fun _ => 0) (fun _ h hz => ⟨h, hz⟩)

end Cert.Proof

end
-- ==== Proof.Host.lean ====
/-
  What the host operations leave before the call: the table is the argument cut into pieces of 128 words, and the index
  rows name the eight pieces of the start row and the eight of the end row of each batch entry.
-/
module

public import proofs.«01_k».proof.Proof.Launch
public import Idealize.ShloMosaic.Lib.Pointwise
public import Idealize.ShloMosaic.Lib.ReduceAll

@[expose] public section

noncomputable section

namespace Cert.Proof

open Cert.KernelIdeal Cert.KernelIdeal.Gen

open Idealize.ShloMosaic

variable {F : FTy → Type} [FloatOps F]

variable (m : (ℓ : Loc nD τ sig) → Buf (Elt F) ℓ) (d : Dev nD)

/-- The arguments: the array, the start rows and the end rows. -/
abbrev arr : FVec F S4x8192x1024 .f32 := m (a0Loc d)
abbrev fromId : IVec S4 32 := m (a1Loc d)
abbrev toId : IVec S4 32 := m (a2Loc d)

set_option maxRecDepth 8192 in
theorem Tb_eq : Tb m d = shapeCast S262144x128 (arr m d) shapeCasts_S4x8192x1024_S262144x128 := by
  unfold Tb V1 hostOps
  after_results_simp
  rfl

/-- The index rows as the host computes them, from the start rows and the end rows. -/
def idxOf (s e : IVec S4 32) : IVec S4x16 32 :=
  have off : IVec S4 32 := muli (iotaInDim S4 32 0) (broadcastInDim S4 ![] bcast_S_S4 (constantI S_ 32 8192#32))
  have both : IVec S4x2 32 := concatenate S4x2 1 [⟨S4x1, broadcastInDim S4x1 ![0] bcast_S4_S4x1_0 (addi s off)⟩,
    ⟨S4x1, broadcastInDim S4x1 ![0] bcast_S4_S4x1_0 (addi e off)⟩] concatenates_S4x1_S4x1_S4x2_d1
  have first : IVec S4x2x1 32 := muli (broadcastInDim S4x2x1 ![0, 1] bcast_S4x2_S4x2x1_0_1 both)
    (broadcastInDim S4x2x1 ![] bcast_S_S4x2x1 (constantI S_ 32 8#32))
  shapeCast S4x16 (addi (broadcastInDim S4x2x8 ![0, 1, 2] bcast_S4x2x1_S4x2x8_0_1_2 first)
    (broadcastInDim S4x2x8 ![0, 1, 2] bcast_S1x1x8_S4x2x8_0_1_2 (broadcastInDim S1x1x8 ![2] bcast_S8_S1x1x8_2 (iotaInDim S8 32 0))))
    shapeCasts_S4x2x8_S4x16

set_option maxRecDepth 8192 in
theorem Ix_eq : Ix m d = idxOf (fromId m d) (toId m d) := by
  unfold Ix V1 hostOps
  after_results_simp
  rfl

set_option maxRecDepth 16384 in
theorem idxOf_apply (s e : IVec S4 32) (b : Fin 4) (r : Fin 16) :
    idxOf s e (ix2 b r) = IntOp.addi (IntOp.muli (IntOp.addi ((if r.val / 8 < 1 then s else e) (ix1 b))
      (IntOp.muli (BitVec.ofNat 32 b.val) 8192#32)) 8#32) (BitVec.ofNat 32 (r.val % 8)) := by
  pointwise [idxOf]
  split <;> rfl

/-- A row named below 8192 gives the number of its piece in the table. -/
theorem idxOf_toNat (s e : IVec S4 32) (b : Fin 4) (r : Fin 16) (h : ((if r.val / 8 < 1 then s else e) (ix1 b)).toNat < 8192) :
    (idxOf s e (ix2 b r)).toNat
      = (b.val * 8192 + ((if r.val / 8 < 1 then s else e) (ix1 b)).toNat) * 8 + r.val % 8 := by
  rw [idxOf_apply]
  generalize (if r.val / 8 < 1 then s else e) (ix1 b) = w at h
  have hb := b.isLt
  simp only [IntOp.addi, IntOp.muli, BitVec.toNat_add, BitVec.toNat_mul, BitVec.toNat_ofNat]
  omega

set_option maxRecDepth 16384 in
set_option maxRecDepth 16384 in
/-- The table's row `q` is the piece `q % 8` of the row `q / 8` of the array, the batch entries one after another. -/
theorem table_apply (a : FVec F S4x8192x1024 .f32) (q : Fin 262144) (l : Fin 128) :
    shapeCast S262144x128 a shapeCasts_S4x8192x1024_S262144x128 (ix2 q l)
      = a (ix3 ⟨q.val / 65536, by omega⟩ ⟨q.val / 8 % 8192, by omega⟩ ⟨q.val % 8 * 128 + l.val, by omega⟩) := by
  pointwise

theorem place_eq (n k : ℕ) [NeZero n] [NeZero k] (r c : ℕ) : place n k r c = ix2 (Fin.ofNat n r) (Fin.ofNat k c) := by
  rw [eq_ix2 (place n k r c)]; rfl

/-- A word that lies from 0 up to 8192 as a signed number does so as an unsigned one. -/
theorem toNat_lt_of_signed {w : BitVec 32} (h : (0#32).toInt ≤ w.toInt) (h' : w.toInt < (8192#32).toInt) : w.toNat < 8192 := by
  have h0 : (0#32).toInt = 0 := rfl
  have h1 : (8192#32).toInt = 8192 := rfl
  rw [h0, BitVec.toInt_eq_toNat_cond] at h
  rw [h1, BitVec.toInt_eq_toNat_cond] at h'
  have := w.isLt
  split at h <;> omega

set_option maxRecDepth 16384 in
/-- What the precondition says: every row named is below 8192. -/
theorem ids_of_pre [Cert.Pre_ids_in_range.Facts] (a0 : FVec F S4x8192x1024 .f32) (s e : IVec S4 32)
    (h : Cert.Pre_ids_in_range.fn (F := F) a0 s e = fun _ => 1#1) (b : Fin 4) :
    (s (ix1 b)).toNat < 8192 ∧ (e (ix1 b)).toNat < 8192 := by
  have h := congrFun h (Shape.Idx.first (s := ⟨0, ![]⟩) (by decide))
  unfold Cert.Pre_ids_in_range.fn at h
  haveI : Subsingleton (Shape.Idx ⟨0, ![]⟩) := ⟨fun a b => funext fun k => k.elim0⟩
  have h := Host.reduce_andi_all _ _ _ _ _ h (ix1 b)
  have h : IntOp.andi (IntOp.andi (IntOp.andi (IntOp.cmpi .sge (s (ix1 b)) 0#32) (IntOp.cmpi .slt (s (ix1 b)) 8192#32))
      (IntOp.cmpi .sge (e (ix1 b)) 0#32)) (IntOp.cmpi .slt (e (ix1 b)) 8192#32) = 1#1 := h
  simp only [IntOp.andi_eq_one, IntOp.cmpi_sge, IntOp.cmpi_slt] at h
  obtain ⟨⟨⟨hs, hs'⟩, he⟩, he'⟩ := h
  exact ⟨toNat_lt_of_signed hs hs', toNat_lt_of_signed he he'⟩

/-- Every row named is below 8192. -/
def Small : Prop := ∀ d (b : Fin 4), (fromId m d (ix1 b)).toNat < 8192 ∧ (toId m d (ix1 b)).toNat < 8192

variable {m}

/-- The row that entry `r` of index row `b` takes its piece from. -/
theorem small_ite (h : Small m) (b : Fin 4) (r : ℕ) :
    ((if r / 8 < 1 then fromId m d else toId m d) (ix1 b)).toNat < 8192 := by
  split
  · exact (h d b).1
  · exact (h d b).2

theorem inRange_of_small (h : Small m) : InRange m := fun d x => by
  rw [Ix_eq, eq_ix2 x]
  refine lt_of_eq_of_lt (idxOf_toNat _ _ (x 0) (x 1) (small_ite d h (x 0) (x 1).val)) ?_
  have := small_ite d h (x 0) (x 1).val
  have h0 : (x 0).val < 4 := (x 0).isLt
  omega

/-- Word `c` of row `q` of the array's batch entry `b`. -/
def word (a : FVec F S4x8192x1024 .f32) (b : Fin 4) (q : BitVec 32) (c : ℕ) : F .f32 :=
  a (ix3 b (Fin.ofNat 8192 q.toNat) (Fin.ofNat 1024 c))

/-- Each piece that the index rows name is 128 words of the row named, of its own batch entry. -/
theorem piece_eq (h : Small m) (b : Fin 4) {r l : ℕ} (hr : r < 16) (hl : l < 128) :
    piece (Tb m d) (Ix m d) b.val r l
      = word (arr m d) b ((if r / 8 < 1 then fromId m d else toId m d) (ix1 b)) (r % 8 * 128 + l) := by
  have hs := small_ite d h b r
  have hi := idxOf_toNat (fromId m d) (toId m d) b ⟨r, hr⟩ hs
  have hb := b.isLt
  unfold piece word
  rw [Tb_eq, Ix_eq, place_eq, place_eq]
  rw [show (ix2 (Fin.ofNat 4 b.val) (Fin.ofNat 16 r) : S4x16.Idx) = ix2 b ⟨r, hr⟩ by
    rw [ix2_inj]; exact ⟨Fin.ext (Nat.mod_eq_of_lt hb), Fin.ext (Nat.mod_eq_of_lt hr)⟩, hi, table_apply]
  dsimp only at hs ⊢
  generalize ((if r / 8 < 1 then fromId m d else toId m d) (ix1 b)).toNat = q at hs
  refine congrArg _ ?_
  rw [ix3_inj]
  refine ⟨Fin.ext ?_, Fin.ext ?_, Fin.ext ?_⟩ <;> simp only [Fin.val_ofNat] <;> omega

/-- Lane `l` of the two products, in words of the two rows. -/
theorem lane_eq (h : Small m) (b : Fin 4) {l : ℕ} (hl : l < 16) :
    lane (Tb m d) (Ix m d) b.val l
      = FloatOps.addf (FloatOps.mulf (word (arr m d) b (fromId m d (ix1 b)) (960 + l)) (word (arr m d) b (toId m d (ix1 b)) (992 + l)))
          (FloatOps.mulf (word (arr m d) b (fromId m d (ix1 b)) (976 + l)) (word (arr m d) b (toId m d (ix1 b)) (1008 + l))) := by
  unfold lane
  rw [piece_eq d h b (by omega) (by omega), piece_eq d h b (by omega) (by omega), piece_eq d h b (by omega) (by omega),
    piece_eq d h b (by omega) (by omega)]
  norm_num only [if_true, if_false, ← Nat.add_assoc]

/-- The first 480 columns of an output row are the start row's. -/
theorem outRow_start (h : Small m) (b : Fin 4) {c : ℕ} (hc : c < 480) :
    outRow (Tb m d) (Ix m d) b.val c = word (arr m d) b (fromId m d (ix1 b)) c := by
  unfold outRow
  rw [if_pos hc, piece_eq d h b (by omega) (by omega), if_pos (by omega)]
  exact congrArg _ (by omega)

/-- The next 480 are the end row's. -/
theorem outRow_end (h : Small m) (b : Fin 4) {c : ℕ} (hc : ¬ c < 480) (hc' : c < 960) :
    outRow (Tb m d) (Ix m d) b.val c = word (arr m d) b (toId m d (ix1 b)) c := by
  unfold outRow
  rw [if_neg hc, if_pos hc', piece_eq d h b (by omega) (by omega), if_neg (by omega)]
  exact congrArg _ (by omega)

/-- The last is the sum of the sixteen lanes. -/
theorem outRow_last (b : Fin 4) : outRow (Tb m d) (Ix m d) b.val 960 = laneSum (Tb m d) (Ix m d) b.val 15 := by
  unfold outRow
  rw [if_neg (by omega), if_neg (by omega)]

end Cert.Proof

end
-- ==== Proof.Reference.lean ====
/-
  What the reference leaves: its two gathers take each batch entry's own row, so its three groups of columns are words of
  the start row, words of the end row, and the sum of thirty-two products.
-/
module

public import proofs.«01_k».proof.Proof.Host
public import proofs.«01_k».proof.Proof.Gen.ReferenceIdeal.Run

@[expose] public section

noncomputable section

namespace Cert.Proof

open Idealize.ShloMosaic

section Any

variable {F : FTy → Type} [FloatOps F]

/-- The row numbers as the reference prepares them: a negative one counts from the end. -/
def wrapped (n : BitVec 32) (x : IVec Cert.ReferenceIdeal.S4 32) : IVec Cert.ReferenceIdeal.S4 32 :=
  select (cmpi .slt x (broadcastInDim Cert.ReferenceIdeal.S4 ![] Cert.ReferenceIdeal.Facts₀.bcast_S_S4 (constantI Cert.ReferenceIdeal.S_ 32 0#32)))
    (addi x (broadcastInDim Cert.ReferenceIdeal.S4 ![] Cert.ReferenceIdeal.Facts₀.bcast_S_S4 (constantI Cert.ReferenceIdeal.S_ 32 n))) x

/-- The pairs (batch entry, row) that the gather is given. -/
def pairsOf (ids : IVec Cert.ReferenceIdeal.S4 32) : IVec Cert.ReferenceIdeal.S4x2 32 :=
  concatenate Cert.ReferenceIdeal.S4x2 1
    [⟨Cert.ReferenceIdeal.S4x1, broadcastInDim Cert.ReferenceIdeal.S4x1 ![0] Cert.ReferenceIdeal.Facts₀.bcast_S4_S4x1_0 (wrapped 4#32 (iotaInDim Cert.ReferenceIdeal.S4 32 0))⟩,
     ⟨Cert.ReferenceIdeal.S4x1, broadcastInDim Cert.ReferenceIdeal.S4x1 ![0] Cert.ReferenceIdeal.Facts₀.bcast_S4_S4x1_0 (wrapped 8192#32 ids)⟩]
    Cert.ReferenceIdeal.Facts₀.concatenates_S4x1_S4x1_S4x2_d1

/-- The rows gathered. -/
def rowsOf (a : FVec F Cert.ReferenceIdeal.S4x8192x1024 .f32) (ids : IVec Cert.ReferenceIdeal.S4 32) : FVec F Cert.ReferenceIdeal.S4x1024 .f32 :=
  Host.gather Cert.ReferenceIdeal.gather_S4x8192x1024_S4x2_S4x1024_1_01_n_n_01_1_111024 a (pairsOf ids)

/-- The reference's result. -/
def refOf (a : FVec F Cert.ReferenceIdeal.S4x8192x1024 .f32) (s e : IVec Cert.ReferenceIdeal.S4 32) : FVec F Cert.ReferenceIdeal.S4x961 .f32 :=
  concatenate Cert.ReferenceIdeal.S4x961 1
    [⟨Cert.ReferenceIdeal.S4x480, extractStridedSlice Cert.ReferenceIdeal.S4x480 ![0, 0] (rowsOf a s) Cert.ReferenceIdeal.Facts₀.slices_S4x1024_S4x480_0_0⟩,
     ⟨Cert.ReferenceIdeal.S4x480, extractStridedSlice Cert.ReferenceIdeal.S4x480 ![0, 480] (rowsOf a e) Cert.ReferenceIdeal.Facts₀.slices_S4x1024_S4x480_0_480⟩,
     ⟨Cert.ReferenceIdeal.S4x1, broadcastInDim Cert.ReferenceIdeal.S4x1 ![0] Cert.ReferenceIdeal.Facts₀.bcast_S4_S4x1_0
        (Host.reduceAdd (mulf (extractStridedSlice Cert.ReferenceIdeal.S4x32 ![0, 960] (rowsOf a s) Cert.ReferenceIdeal.Facts₀.slices_S4x1024_S4x32_0_960)
            (extractStridedSlice Cert.ReferenceIdeal.S4x32 ![0, 992] (rowsOf a e) Cert.ReferenceIdeal.Facts₀.slices_S4x1024_S4x32_0_992))
          (constant Cert.ReferenceIdeal.S_ .f32 0x00000000#32) Cert.ReferenceIdeal.Facts₀.reducesTo_S4x32_S4_d1 Cert.ReferenceIdeal.Facts₀.h_S_)⟩]
    Cert.ReferenceIdeal.Facts₀.concatenates_S4x480_S4x480_S4x1_S4x961_d1

/-- A number below 2³¹ isn't negative, so it is left as it is. -/
theorem wrapped_apply (n : BitVec 32) (x : IVec Cert.ReferenceIdeal.S4 32) (b : Fin 4) (h : (x (ix1 b)).toNat < 8192) :
    wrapped n x (ix1 b) = x (ix1 b) := by
  show (if IntOp.cmpi .slt (x (ix1 b)) 0#32 = 1#1 then _ else _) = _
  rw [if_neg]
  rw [IntOp.cmpi_slt, show (0#32).toInt = 0 from rfl, BitVec.toInt_eq_toNat_cond]
  split <;> omega

set_option maxRecDepth 16384 in
theorem pairsOf_apply (ids : IVec Cert.ReferenceIdeal.S4 32) (b : Fin 4) (k : Fin 2) :
    pairsOf ids (ix2 b k) = if k.val < 1 then wrapped 4#32 (iotaInDim Cert.ReferenceIdeal.S4 32 0) (ix1 b) else wrapped 8192#32 ids (ix1 b) := by
  pointwise [pairsOf]
  split <;> rfl

/-- The pair of batch entry `b` is `b` and the row named. -/
theorem pairsOf_zero (ids : IVec Cert.ReferenceIdeal.S4 32) (b : Fin 4) : (pairsOf ids (ix2 b 0)).toNat = b.val := by
  have e : (iotaInDim Cert.ReferenceIdeal.S4 32 0 (ix1 b)).toNat = b.val := by
    show (BitVec.ofNat 32 b.val).toNat = b.val
    rw [BitVec.toNat_ofNat]; omega
  rw [pairsOf_apply, if_pos (by decide), wrapped_apply _ _ _ (by rw [e]; omega), e]

theorem pairsOf_one (ids : IVec Cert.ReferenceIdeal.S4 32) (b : Fin 4) (h : (ids (ix1 b)).toNat < 8192) :
    pairsOf ids (ix2 b 1) = ids (ix1 b) := by
  rw [pairsOf_apply, if_neg (by decide), wrapped_apply _ _ _ h]

/-- A word below 8192 is itself when read signed. -/
theorem toInt_toNat {w : BitVec 32} (h : w.toNat < 8192) : w.toInt.toNat = w.toNat := by
  rw [BitVec.toInt_eq_toNat_cond, if_pos (by omega), Int.toNat_natCast]

/-- The gather's dimension numbers. -/
abbrev dims := Cert.ReferenceIdeal.gather_S4x8192x1024_S4x2_S4x1024_1_01_n_n_01_1_111024

/-- The gather of the pairs takes, of each batch entry, the row named. -/
theorem rowsOf_apply (a : FVec F Cert.ReferenceIdeal.S4x8192x1024 .f32) (ids : IVec Cert.ReferenceIdeal.S4 32) (b : Fin 4) (c : Fin 1024)
    (h : (ids (ix1 b)).toNat < 8192) : rowsOf a ids (ix2 b c) = word a b (ids (ix1 b)) c.val := by
  unfold rowsOf word Host.gather
  refine congrArg a (funext fun x => Fin.ext ?_)
  show dims.start (ix2 b c) (pairsOf ids) x + dims.batchCoord (ix2 b c) x + dims.offCoord (ix2 b c) x = _
  rw [GatherDims.batchCoord_eq_zero _ _ _ (show ¬ x ∈ ([] : List (Fin 3)) from List.not_mem_nil), Nat.add_zero]
  match x with
  | 0 =>
    have hi : (0 : Fin 3) ∈ dims.startIndexMap := by decide
    rw [GatherDims.offCoord_eq_zero _ _ _ (fun h => ((GatherDims.mem_sKept _ _).mp h).1 (by decide)), Nat.add_zero]
    unfold GatherDims.start
    rw [dif_pos hi]
    have hsi : dims.siIdx (ix2 b c) ⟨List.idxOf (0 : Fin 3) dims.startIndexMap, List.idxOf_lt_length_iff.2 hi⟩ = ix2 b 0 := by
      funext y; refine Fin.ext ?_
      match y with
      | 0 => rfl
      | 1 => rfl
    have hp := pairsOf_zero ids b
    rw [hsi, toInt_toNat (by rw [hp]; omega), hp]
    show min b.val (4 - 1) = b.val
    omega
  | 1 =>
    have hi : (1 : Fin 3) ∈ dims.startIndexMap := by decide
    rw [GatherDims.offCoord_eq_zero _ _ _ (fun h => ((GatherDims.mem_sKept _ _).mp h).1 (by decide)), Nat.add_zero]
    unfold GatherDims.start
    rw [dif_pos hi]
    have hsi : dims.siIdx (ix2 b c) ⟨List.idxOf (1 : Fin 3) dims.startIndexMap, List.idxOf_lt_length_iff.2 hi⟩ = ix2 b 1 := by
      funext y; refine Fin.ext ?_
      match y with
      | 0 => rfl
      | 1 => rfl
    rw [hsi, pairsOf_one ids b h, toInt_toNat h]
    show min (ids (ix1 b)).toNat (8192 - 1) = (ids (ix1 b)).toNat % 8192
    omega
  | 2 =>
    have hn : ¬ (2 : Fin 3) ∈ dims.startIndexMap := by decide
    unfold GatherDims.start GatherDims.offCoord
    rw [dif_neg hn, dif_pos ((GatherDims.mem_sKept _ _).mpr ⟨by decide, by decide⟩), Nat.zero_add]
    show c.val = c.val % 1024
    rw [Nat.mod_eq_of_lt c.isLt]

end Any

set_option maxRecDepth 16384 in
/-- The reference's result by its groups of columns. -/
theorem refOf_apply (a : FVec Ideal Cert.ReferenceIdeal.S4x8192x1024 .f32) (s e : IVec Cert.ReferenceIdeal.S4 32) (b : Fin 4) (c : Fin 961)
    (hs : (s (ix1 b)).toNat < 8192) (he : (e (ix1 b)).toNat < 8192) :
    refOf (F := Ideal) a s e (ix2 b c)
      = if c.val < 480 then word a b (s (ix1 b)) c.val else if c.val < 960 then word a b (e (ix1 b)) c.val
        else ∑ k : Fin 32, word a b (s (ix1 b)) (960 + k.val) * word a b (e (ix1 b)) (992 + k.val) := by
  pointwise [refOf]
  by_cases h0 : c.val < 480
  · rw [dif_pos h0, if_pos h0, rowsOf_apply _ _ _ _ hs]
  · rw [dif_neg h0, if_neg h0]
    by_cases h1 : c.val < 960
    · rw [dif_pos (by omega), if_pos h1, rowsOf_apply _ _ _ _ he]
      exact congrArg _ (by show 480 + (c.val - 480) = c.val; omega)
    · rw [dif_neg (by omega), if_neg h1]
      exact Finset.sum_congr rfl fun k _ => by rw [rowsOf_apply _ _ _ _ hs, rowsOf_apply _ _ _ _ he]

/-- Over the extended reals the lanes added one by one are their sum. -/
theorem laneSum_eq_sum (Tb : Cert.KernelIdeal.S262144x128.Idx → Ideal .f32) (Ix : Cert.KernelIdeal.S4x16.Idx → BitVec 32) (b n : ℕ) :
    laneSum (F := Ideal) Tb Ix b n = ∑ l ∈ Finset.range (n + 1), (lane (F := Ideal) Tb Ix b l : EReal) := by
  induction n with
  | zero => rw [Finset.sum_range_one]; rfl
  | succ n ih => rw [Finset.sum_range_succ, ← ih]; rfl

variable {m : (ℓ : Loc Cert.KernelIdeal.nD Cert.KernelIdeal.τ Cert.KernelIdeal.sig) → Buf (Elt Ideal) ℓ} (d : Dev Cert.KernelIdeal.nD)

/-- The sum of the sixteen lanes is the sum of the thirty-two products: lane `l` holds products `l` and `16 + l`. -/
theorem laneSum_eq (h : Small m) (b : Fin 4) :
    laneSum (F := Ideal) (Tb m d) (Ix m d) b.val 15
      = ∑ k : Fin 32, word (arr m d) b (fromId m d (ix1 b)) (960 + k.val) * word (arr m d) b (toId m d (ix1 b)) (992 + k.val) := by
  let f : ℕ → EReal := fun k => word (arr m d) b (fromId m d (ix1 b)) (960 + k) * word (arr m d) b (toId m d (ix1 b)) (992 + k)
  have hf : ∑ k : Fin 32, f k.val = ∑ l ∈ Finset.range 16, (f l + f (16 + l)) := by
    rw [Fin.sum_univ_eq_sum_range f 32, Finset.sum_add_distrib]
    exact Finset.sum_range_add f 16 16
  refine (laneSum_eq_sum _ _ _ _).trans (Eq.trans ?_ hf.symm)
  refine Finset.sum_congr rfl fun l hl => ?_
  refine (lane_eq d h b (Finset.mem_range.mp hl)).trans ?_
  have e1 : 960 + (16 + l) = 976 + l := by omega
  have e2 : 992 + (16 + l) = 1008 + l := by omega
  dsimp only [f]
  rw [e1, e2]
  rfl

/-- One word of the kernel's result is the reference's. -/
theorem outRow_eq (h : Small m) (b : Fin 4) (c : Fin 961) :
    outRow (F := Ideal) (Tb m d) (Ix m d) b.val c.val = refOf (F := Ideal) (arr m d) (fromId m d) (toId m d) (ix2 b c) := by
  refine Eq.trans ?_ (refOf_apply _ _ _ _ _ (h d b).1 (h d b).2).symm
  by_cases h0 : c.val < 480
  · rw [if_pos h0, outRow_start d h b h0]
  · rw [if_neg h0]
    by_cases h1 : c.val < 960
    · rw [if_pos h1, outRow_end d h b h0 h1]
    · rw [if_neg h1, show c.val = 960 by omega, outRow_last, laneSum_eq d h b]

/-- The kernel's result is the reference's, of the same arguments. -/
theorem Res_eq (h : Small m) : Res m d = refOf (F := Ideal) (arr m d) (fromId m d) (toId m d) := by
  funext x
  exact (outRow_eq d h (x 0) (x 1)).trans (congrArg _ (eq_ix2 (x : Cert.ReferenceIdeal.S4x961.Idx)).symm)

end Cert.Proof

end
-- ==== Proof.lean ====
/-
  The claims: the kernel and the ideal kernel end without fault, with their arguments and every semaphore counter as they
  should be; so does the reference; and over the extended reals the kernel's result is the reference's.
-/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_ids_in_range
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The kernel on the machine's words: the run over any float values, its result dropped. -/
theorem frame_kernel : Cert.quiescent_Kernel := fun m ρ hpre =>
  (θ_run Cert.KernelIdeal.defs _ _).mono (fun _ h => ⟨fun c => ⟨(h.1 c).1, (h.1 c).2.1, (h.1 c).2.2.1⟩, h.2⟩)
    (run_main (F := Bits) m ρ (inRange_of_small fun d b => ids_of_pre _ _ _ (hpre d) b))

/-- The kernel over the extended reals. -/
theorem frame_kernelIdeal : Cert.quiescent_KernelIdeal := fun m ρ hpre =>
  (θ_run Cert.KernelIdeal.defs _ _).mono (fun _ h => ⟨fun c => ⟨(h.1 c).1, (h.1 c).2.1, (h.1 c).2.2.1⟩, h.2⟩)
    (run_main (F := Ideal) m ρ (inRange_of_small fun d b => ids_of_pre _ _ _ (hpre d) b))

/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference leave the same result. -/
theorem value : Cert.algebraic_KernelIdeal_ReferenceIdeal := fun m ρ m' ρ' hpre hargs =>
  have hs : Small m := fun d b => ids_of_pre _ _ _ (hpre d) b
  ⟨fun c => Res m c,
    (θ_run Cert.KernelIdeal.defs _ _).mono (fun _ h c => ⟨(h.1 c).2.2.2, (h.1 c).1, (h.1 c).2.1, (h.1 c).2.2.1⟩)
      (run_main (F := Ideal) m ρ (inRange_of_small hs)),
    (θ_run Cert.ReferenceIdeal.defs _ _).mono (fun r h c => ⟨(h c).1.trans (by
        rw [(hargs c).1, (hargs c).2.1, (hargs c).2.2]; exact (Res_eq c hs).symm), (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_ids_in_range.Gen.facts,
  frame_kernel, frame_kernelIdeal, frame_reference, fun m ρ _ => frame_reference m ρ trivial, trivial, value⟩

end Cert.Proof

end
